-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S4x1x256 : Shape := ⟨3, ![4, 1, 256]⟩
abbrev S3 : Shape := ⟨1, ![3]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S4x1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v37 : BitVec 32 := Scalar.muli v13 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_22 : BitVec 32 := 1#32
  let v39 : BitVec 32 := Scalar.muli v24 c1_i32_22
  let v40 : BitVec 32 := Scalar.addi c0_i32_23 v39
  v40.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_25 : BitVec 32 := 1#32
  let v41 : BitVec 32 := Scalar.muli v35 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v50 : BitVec 32 := Scalar.addi v2 c1_i32_32
  let c4_i32_33 : BitVec 32 := 4#32
  let c0_i32_34 : BitVec 32 := 0#32
  let v51 : BitVec 1 := Scalar.cmpi .eq c4_i32_33 c0_i32_34
  let c1_i32_35 : BitVec 32 := 1#32
  let v52 : BitVec 32 := Scalar.select v51 c1_i32_35 c4_i32_33
  let v53 : BitVec 32 := Scalar.remsi v50 v52
  let c0_i32_37 : BitVec 32 := 0#32
  let v55 : BitVec 1 := Scalar.cmpi .slt v53 c0_i32_37
  let c0_i32_38 : BitVec 32 := 0#32
  let v56 : BitVec 1 := Scalar.cmpi .slt v52 c0_i32_38
  let v57 : BitVec 1 := Scalar.xori v55 v56
  let c0_i32_36 : BitVec 32 := 0#32
  let v54 : BitVec 1 := Scalar.cmpi .ne v53 c0_i32_36
  let v58 : BitVec 1 := Scalar.andi v57 v54
  let v59 : BitVec 32 := Scalar.addi v53 v52
  let v60 : BitVec 32 := Scalar.select v58 v59 v53
  let c1_i32_43 : BitVec 32 := 1#32
  let v61 : BitVec 32 := Scalar.muli v60 c1_i32_43
  let v62 : BitVec 32 := Scalar.addi c0_i32_44 v61
  v62.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_49 : BitVec 32 := 2#32
  let v71 : BitVec 32 := Scalar.addi v2 c2_i32_49
  let c4_i32_50 : BitVec 32 := 4#32
  let c0_i32_51 : BitVec 32 := 0#32
  let v72 : BitVec 1 := Scalar.cmpi .eq c4_i32_50 c0_i32_51
  let c1_i32_52 : BitVec 32 := 1#32
  let v73 : BitVec 32 := Scalar.select v72 c1_i32_52 c4_i32_50
  let v74 : BitVec 32 := Scalar.remsi v71 v73
  let c0_i32_54 : BitVec 32 := 0#32
  let v76 : BitVec 1 := Scalar.cmpi .slt v74 c0_i32_54
  let c0_i32_55 : BitVec 32 := 0#32
  let v77 : BitVec 1 := Scalar.cmpi .slt v73 c0_i32_55
  let v78 : BitVec 1 := Scalar.xori v76 v77
  let c0_i32_53 : BitVec 32 := 0#32
  let v75 : BitVec 1 := Scalar.cmpi .ne v74 c0_i32_53
  let v79 : BitVec 1 := Scalar.andi v78 v75
  let v80 : BitVec 32 := Scalar.addi v74 v73
  let v81 : BitVec 32 := Scalar.select v79 v80 v74
  let c1_i32_60 : BitVec 32 := 1#32
  let v82 : BitVec 32 := Scalar.muli v81 c1_i32_60
  let v83 : BitVec 32 := Scalar.addi c0_i32_61 v82
  v83.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v92 : BitVec 32 := Scalar.addi v2 c3_i32_66
  let c4_i32_67 : BitVec 32 := 4#32
  let c0_i32_68 : BitVec 32 := 0#32
  let v93 : BitVec 1 := Scalar.cmpi .eq c4_i32_67 c0_i32_68
  let c1_i32_69 : BitVec 32 := 1#32
  let v94 : BitVec 32 := Scalar.select v93 c1_i32_69 c4_i32_67
  let v95 : BitVec 32 := Scalar.remsi v92 v94
  let c0_i32_71 : BitVec 32 := 0#32
  let v97 : BitVec 1 := Scalar.cmpi .slt v95 c0_i32_71
  let c0_i32_72 : BitVec 32 := 0#32
  let v98 : BitVec 1 := Scalar.cmpi .slt v94 c0_i32_72
  let v99 : BitVec 1 := Scalar.xori v97 v98
  let c0_i32_70 : BitVec 32 := 0#32
  let v96 : BitVec 1 := Scalar.cmpi .ne v95 c0_i32_70
  let v100 : BitVec 1 := Scalar.andi v99 v96
  let v101 : BitVec 32 := Scalar.addi v95 v94
  let v102 : BitVec 32 := Scalar.select v100 v101 v95
  let c1_i32_77 : BitVec 32 := 1#32
  let v103 : BitVec 32 := Scalar.muli v102 c1_i32_77
  let v104 : BitVec 32 := Scalar.addi c0_i32_78 v103
  v104.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S_, .f32⟩
  | .hbm, ⟨2, _⟩ => ⟨S_, .f32⟩
  | .hbm, ⟨3, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.SlotsIdeal.lean ====
/-
# The four slots of the exchange buffer

The kernel's exchange buffer is four rows of 256 numbers. Row 0 holds the device's own column sums; row `i + 1`
receives those of the device `i + 1` places behind. This file gives the rows as element sets of the buffer, as the
memrefs the copies name and as the rectangles the loads name, and says what a row holds after each of them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Rows -/

/-- The exchange buffer, whole. -/
abbrev scrM : Memref sig .tc .vmem S4x1x256 .f32 := Memref.whole cc0_scratch0

theorem row_inb (s : Fin 4) : ∀ a, (![s.val, 0, 0] : Fin 3 → Nat) a + S1x1x256.size a ≤ S4x1x256.size a := by
  revert s; decide

/-- Row `s` as the rectangle a load or a store names. -/
abbrev rowR (s : Fin 4) : Rect S4x1x256 := Rect.unit (s := S4x1x256) ![s.val, 0, 0] S1x1x256.size (row_inb s)

/-- Row `s` as the memref a copy names. -/
abbrev rowM (s : Fin 4) : Memref sig .tc .vmem S1x256 .f32 :=
  (scrM.slice (rowR s) (fun _ => rfl)).squeeze S1x256 squeezes_S1x1x256_S1x256

/-- Row `s` as a set of the buffer's elements. -/
def rowS (s : Fin 4) : Finset (cc0_scratch0 : Ref sig .tc).ty.Idx :=
  Finset.univ.filter fun k : S4x1x256.Idx => (k 0).val = s.val

theorem mem_rowS {s : Fin 4} {k : S4x1x256.Idx} : k ∈ rowS s ↔ (k 0).val = s.val := by
  unfold rowS; exact ⟨fun h => (Finset.mem_filter.mp h).2, fun h => Finset.mem_filter.mpr ⟨Finset.mem_univ _, h⟩⟩

/-- The rectangle's elements are the row's; -/
theorem rowR_set (s : Fin 4) : ((rowR s).set : Finset S4x1x256.Idx) = rowS s := by
  ext k
  rw [mem_rowS, Rect.mem_set_unit]
  constructor
  · intro h
    have h0 := h 0
    simp at h0
    omega
  · intro h a
    have h1 := (k 1).isLt
    have h2 := (k 2).isLt
    fin_cases a <;> simp at * <;> omega

/-- and so are the memref's. -/
theorem rowM_set (s : Fin 4) : (rowM s).view.set = rowS s :=
  (View.set_reshape _ _).trans ((View.set_slice_whole _ _).trans (rowR_set s))

/-- A store through the rectangle touches the row only; -/
theorem rowR_access (s : Fin 4) : (scrM.access (rowR s) : View sig .tc _ _ _).set = rowS s :=
  (View.set_slice_whole _ _).trans (rowR_set s)

/-- and so does a load. -/
theorem rowR_load (s : Fin 4) : scrM.view.setOn (rowR s).toLoadRect.set ⊆ rowS s := by
  intro k hk
  obtain ⟨k', hk', rfl⟩ := Finset.mem_map.mp hk
  rw [← rowR_set s]
  exact hk'

theorem rows_disjoint (s s' : Fin 4) (h : s ≠ s') : Disjoint (rowS s) (rowS s') :=
  Finset.disjoint_left.mpr fun k hk hk' => h (Fin.ext ((mem_rowS.mp hk).symm.trans (mem_rowS.mp hk')))

theorem rows_cover : Finset.univ.biUnion rowS = Finset.univ := by
  ext k
  exact ⟨fun _ => Finset.mem_univ _, fun _ => Finset.mem_biUnion.mpr ⟨(k (0 : Fin 3) : Fin 4), Finset.mem_univ _, mem_rowS.mpr rfl⟩⟩

/-! ## Contents -/

/-- Column `j` of a single row. -/
def colIx (j : Fin 256) : S1x1x256.Idx := fun
  | ⟨0, _⟩ => (0 : Fin 1)
  | ⟨1, _⟩ => (0 : Fin 1)
  | ⟨2, _⟩ => j

theorem colIx_eq (i : S1x1x256.Idx) (j : Fin 256) (h : (i 2).val = j.val) : colIx j = i :=
  funext fun
  | ⟨0, _⟩ => Subsingleton.elim (α := Fin 1) _ _
  | ⟨1, _⟩ => Subsingleton.elim (α := Fin 1) _ _
  | ⟨2, _⟩ => Fin.ext h.symm

/-- The buffer with the one row `y` in every slot: what a slot holding `y` holds, restricted to that slot. -/
def rowBuf (y : FVec F S1x1x256 .f32) : (cc0_scratch0 : Ref sig .tc).ty.Contents (Elt F) :=
  fun k : S4x1x256.Idx => y (colIx (k 2))

/-- A load of a row reads it. -/
theorem read_rowBuf (s : Fin 4) (y : FVec F S1x1x256 .f32) :
    scrM.view.readAt (Elt F) (rowR s).toLoadRect (rowBuf y) = y := by
  funext j
  show y (colIx ((rowR s).emb j 2)) = y j
  refine congrArg y (colIx_eq j _ ?_)
  show (j 2).val = 0 + 1 * (j 2).val
  omega

/-- The row vector a rectangle's element belongs to. -/
theorem rowBuf_emb (s : Fin 4) (y : FVec F S1x1x256 .f32) (j : S1x1x256.Idx) : rowBuf y ((rowR s).emb j) = y j := by
  refine congrArg y (colIx_eq j _ ?_)
  show (j 2).val = 0 + 1 * (j 2).val
  omega

/-- A store of `y` into a row leaves it holding `y`. -/
theorem store_rowBuf (s : Fin 4) (f : (cc0_scratch0 : Ref sig .tc).ty.Contents (Elt F)) (y : FVec F S1x1x256 .f32)
    (k : (cc0_scratch0 : Ref sig .tc).ty.Idx) (hk : k ∈ rowS s) :
    ((scrM.access (rowR s) : View sig .tc _ _ _).write (Elt F) f y Finset.univ) k = rowBuf y k := by
  rw [← rowR_access s] at hk
  obtain ⟨j, -, h⟩ := Finset.mem_map.mp hk
  subst h
  exact (View.write_emb_of_mem (Val := Elt F) (v := (scrM.access (rowR s) : View sig .tc _ _ _)) f y (Finset.mem_univ j)).trans
    (rowBuf_emb s y j).symm

/-- Reading the rows of `rowBuf y` as copies do gives the same vector at every row. -/
theorem rowM_read (s s' : Fin 4) (y : FVec F S1x1x256 .f32) (j : S1x256.Idx) :
    (rowM s).view.read (Elt F) (rowBuf y) j = rowBuf y ((rowM s').view.emb j) := by
  refine (rowBuf_emb s y (Shape.reshapeEquiv squeezes_S1x1x256_S1x256.numel_eq j)).trans ?_
  exact (rowBuf_emb s' y (Shape.reshapeEquiv squeezes_S1x1x256_S1x256.numel_eq j)).symm

/-- A copy between rows carries what the source row holds. -/
theorem copy_rowBuf (s s' : Fin 4) (f : (cc0_scratch0 : Ref sig .tc).ty.Contents (Elt F)) (y : FVec F S1x1x256 .f32)
    (k : (cc0_scratch0 : Ref sig .tc).ty.Idx) (hk : k ∈ rowS s') :
    ((rowM s').view.write (Elt F) f ((rowM s).view.read (Elt F) (rowBuf y)) Finset.univ) k = rowBuf y k := by
  rw [← rowM_set s'] at hk
  obtain ⟨j, -, h⟩ := Finset.mem_map.mp hk
  subst h
  exact (View.write_emb_of_mem (Val := Elt F) (v := (rowM s').view) f _ (Finset.mem_univ j)).trans (rowM_read s s' y j)

end Cert.KernelIdeal.Scan

end
-- ==== Proof.ProtocolIdeal.lean ====
/-
# The protocol of the exchange

Four devices stand on a ring. For each distance `i + 1` (`i = 0, 1, 2`) a device sends its column sums to the device
`i + 1` places ahead, into that device's row `i + 1`. Before sending, every device tells the three others, through the
barrier semaphore, that their row of its exchange buffer may be written, and waits for the three tellings it is owed.

Each of a device's seven semaphores is a cell with a single round of duties:

* the barrier: duty `i` is paid by the device `i + 1` places ahead, who hands over its row `i + 1`;
* arrival `i`: its one duty is paid by the copy from the device `i + 1` places behind, which hands over row `i + 1`
  holding that device's column sums;
* departure `i`: its one duty is paid by the device's own copy `i`, which hands back a third of the device's row 0.

The file states these duties, what every device owes at the start, and in which order the cells may be waited on.
-/
module

public import proofs.«01_k».proof.Proof.SlotsIdeal
public import Idealize.ShloMosaic.Lib.Ring.Trips

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline library's rounds and the exchange's -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The state at launch: arbitrary memory and generator registers, every semaphore at zero. -/
def s₀ : MemSt nD τ sig (Elt F) := ⟨m, fun _ => 0, ρ⟩

/-! ## The ring of devices -/

/-- The device `i + 1` places ahead of `c`; -/
def up (c : Dev nD) (i : Fin 3) : Dev nD := ⟨(c.val + (i.val + 1)) % 4, Nat.mod_lt _ (by decide)⟩
/-- the device `i + 1` places behind. -/
def down (c : Dev nD) (i : Fin 3) : Dev nD := ⟨(c.val + (3 - i.val)) % 4, Nat.mod_lt _ (by decide)⟩

theorem down_up (i : Fin 3) (c : Dev nD) : down (up c i) i = c := by revert c i; decide
theorem up_down (i : Fin 3) (c : Dev nD) : up (down c i) i = c := by revert c i; decide

/-- Moving every device `i + 1` places ahead permutes them. -/
def turn (i : Fin 3) : Dev nD ≃ Dev nD := ⟨fun c => up c i, fun c => down c i, down_up i, up_down i⟩

/-- The three tellings go to the devices three, two and one places behind; -/
theorem dev1_eq (c : Dev nD) : (⟨k0_dev1 c, k0_dev1_lt c⟩ : Dev nD) = down c 2 := by revert c; decide +kernel
theorem dev2_eq (c : Dev nD) : (⟨k0_dev2 c, k0_dev2_lt c⟩ : Dev nD) = down c 1 := by revert c; decide +kernel
theorem dev3_eq (c : Dev nD) : (⟨k0_dev3 c, k0_dev3_lt c⟩ : Dev nD) = down c 0 := by revert c; decide +kernel
/-- the three copies to those one, two and three places ahead. -/
theorem dev4_eq (c : Dev nD) : (⟨k0_dev4 c, k0_dev4_lt c⟩ : Dev nD) = up c 0 := by revert c; decide +kernel
theorem dev5_eq (c : Dev nD) : (⟨k0_dev5 c, k0_dev5_lt c⟩ : Dev nD) = up c 1 := by revert c; decide +kernel
theorem dev6_eq (c : Dev nD) : (⟨k0_dev6 c, k0_dev6_lt c⟩ : Dev nD) = up c 2 := by revert c; decide +kernel

/-! ## The cells -/

abbrev barS : Sem sig := (SemArray.scalar (sig.barrier 0 rfl) : Sems sig S_).sem
/-- Departure semaphore `i` -/
abbrev sendS (i : Fin 3) : DmaSem sig := ⟨2 + i.val, by have := i.isLt; show 2 + i.val < 8; omega⟩
/-- and arrival semaphore `i`. -/
abbrev recvS (i : Fin 3) : DmaSem sig := ⟨5 + i.val, by have := i.isLt; show 5 + i.val < 8; omega⟩

abbrev barCell (c : Dev nD) : GSem nD τ sig := ((c : Thread nD τ), .reg barS)
abbrev sendCell (c : Dev nD) (i : Fin 3) : GSem nD τ sig := ((c : Thread nD τ), .dma (sendS i))
abbrev recvCell (c : Dev nD) (i : Fin 3) : GSem nD τ sig := ((c : Thread nD τ), .dma (recvS i))

/-- The kernel's six own semaphores, departures first; -/
abbrev osem : Fin 6 → SemLoc sig := fun k => .dma ⟨2 + k.val, by have := k.isLt; show 2 + k.val < 8; omega⟩
/-- all seven: the barrier, the departures, the arrivals. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

/-- The place among the seven of departure `i` -/
def sendK (i : Fin 3) : Fin 7 := ⟨1 + i.val, by have := i.isLt; omega⟩
/-- and of arrival `i`. -/
def recvK (i : Fin 3) : Fin 7 := ⟨4 + i.val, by have := i.isLt; omega⟩

theorem kcell_send (c : Dev nD) (i : Fin 3) : kcell (c, sendK i) = sendCell c i := by fin_cases i <;> rfl
theorem kcell_recv (c : Dev nD) (i : Fin 3) : kcell (c, recvK i) = recvCell c i := by fin_cases i <;> rfl

/-- What one row's copy adds to each semaphore it completes on. -/
abbrev N : ℕ := (rowM 0).view.dmaCredit
theorem N_pos : 0 < N := View.dmaCredit_pos _ (by decide)
theorem credit_row (s : Fin 4) : (rowM s).view.dmaCredit = N := rfl

/-! ## Contents -/

/-- Device `c`'s block of the argument, as the kernel finds it staged. -/
def xstg (c : Dev nD) : (cc0_stg0_0 : Ref sig .tc).ty.Contents (Elt F) :=
  (win0_0.blk (0 : Fin 1)).view.read (Elt F) ((s₀ m ρ).mem ((c : Thread nD τ).loc main_arg0))

/-- Its column sums, as the kernel computes them. -/
def sums (c : Dev nD) : FVec F S1x1x256 .f32 := k0_pay1 (xstg m ρ c)

/-- Device `c`'s row `s` held at share `q`, at the contents `f` of the whole buffer restricted to the row. -/
def rowAt (c : Dev nD) (s : Fin 4) (q : PosShare TreeShare) (f : (cc0_scratch0 : Ref sig .tc).ty.Contents (Elt F)) : sProp 𝕄 :=
  (((c : Thread nD τ).loc cc0_scratch0) ↦[rowS s]{q} (f : Buf (Elt F) ((c : Thread nD τ).loc cc0_scratch0)))

omit [FloatOps F] in
instance rowAt_storable (c : Dev nD) (s q) (f) : BI.Storable (upEmb : UEmb _ 𝕄) (rowAt (F := F) c s q f) := by unfold rowAt; infer_instance

omit [FloatOps F] in
theorem rowAt_congr (c : Dev nD) (s q) {f g : (cc0_scratch0 : Ref sig .tc).ty.Contents (Elt F)} (h : ∀ k ∈ rowS s, f k = g k) :
    (rowAt c s q f : sProp 𝕄) = rowAt c s q g := by
  unfold rowAt; exact pointsTo_congr h

/-- A third of the full share: what each of the three copies borrows of row 0. -/
abbrev third (i : Fin 3) : PosShare TreeShare := Ring.shares3 fullShare i

omit [FloatOps F] in
theorem rowAt_thirds (c : Dev nD) (s) (f : (cc0_scratch0 : Ref sig .tc).ty.Contents (Elt F)) :
    (rowAt c s fullShare f : sProp 𝕄) ⊣⊢ iprop(rowAt c s (third 0) f ∗ rowAt c s (third 1) f ∗ rowAt c s (third 2) f) := by
  unfold rowAt; exact Ring.pointsTo_thirds fullShare _

omit [FloatOps F] in
/-- The buffer held whole is its four rows held. -/
theorem rows_split (c : Dev nD) (f : (cc0_scratch0 : Ref sig .tc).ty.Contents (Elt F)) :
    ((((c : Thread nD τ).loc cc0_scratch0) ↦{fullShare} (f : Buf (Elt F) ((c : Thread nD τ).loc cc0_scratch0))) : sProp 𝕄)
      = iprop(rowAt c 0 fullShare f ∗ rowAt c 1 fullShare f ∗ rowAt c 2 fullShare f ∗ rowAt c 3 fullShare f) := by
  refine (Ring.pointsTo_blocks (ℓ := (c : Thread nD τ).loc cc0_scratch0) rowS rows_disjoint rows_cover f).trans ?_
  exact bigSep_univ_eq_bigSepL [(0 : Fin 4), 1, 2, 3] (by decide) (by decide) fun s => (rowAt c s fullShare f : sProp 𝕄)

omit [FloatOps F] in
/-- Four rows, each held at contents of its own, are the buffer held whole at some contents. -/
theorem rows_join (c : Dev nD) (f₀ f₁ f₂ f₃ : (cc0_scratch0 : Ref sig .tc).ty.Contents (Elt F)) :
    iprop(rowAt c 0 fullShare f₀ ∗ rowAt c 1 fullShare f₁ ∗ rowAt c 2 fullShare f₂ ∗ rowAt c 3 fullShare f₃)
      ⊢ (iprop(∃ g, (((c : Thread nD τ).loc cc0_scratch0) ↦{fullShare} (g : Buf (Elt F) ((c : Thread nD τ).loc cc0_scratch0)))) : sProp 𝕄) := by
  refine Entails.trans (Entails.of_eq ?_)
    (Ring.pointsTo_blocks_join (ℓ := (c : Thread nD τ).loc cc0_scratch0) rowS rows_disjoint rows_cover ![f₀, f₁, f₂, f₃] f₀)
  exact (bigSep_univ_eq_bigSepL [(0 : Fin 4), 1, 2, 3] (by decide) (by decide)
    fun s => (rowAt c s fullShare (![f₀, f₁, f₂, f₃] s) : sProp 𝕄)).symm

/-! ## The schedule -/

/-- What the device `i + 1` places ahead hands over when it tells: its row `i + 1`, and that its arrival `i` is open. -/
def barPay (c : Dev nD) (i : Fin 3) : sProp 𝕄 :=
  iprop((∃ f, rowAt (up c i) i.succ fullShare f) ∗ reached EX (recvCell (up c i) i) 0)
/-- What copy `i` from behind hands over: row `i + 1` holding the sender's column sums. -/
def recvPay (c : Dev nD) (i : Fin 3) : sProp 𝕄 := rowAt c i.succ fullShare (rowBuf (sums m ρ (down c i)))
/-- What the device's own copy `i` hands back: a third of its row 0. -/
def sendPay (c : Dev nD) (i : Fin 3) : sProp 𝕄 := rowAt c 0 (third i) (rowBuf (sums m ρ c))

/-- The duties of a semaphore at round 0: three at the barrier, one at each departure and arrival. -/
def dutiesAt : SemLoc sig → Finset (Fin 3)
  | .reg _ => Finset.univ
  | .dma q => if 2 ≤ q.val then {0} else ∅

/-- What a duty of a semaphore of device `c` hands over. -/
def payAt (c : Dev nD) (d : Fin 3) : SemLoc sig → sProp 𝕄
  | .reg _ => barPay c d
  | .dma q => if 5 ≤ q.val then recvPay m ρ c (Fin.ofNat 3 (q.val - 5)) else sendPay m ρ c (Fin.ofNat 3 (q.val - 2))

def exRd : Rounds.Schedule (GSem nD τ sig) (Fin 3) 𝕄 where
  duties g r := if r = 0 ∧ g.1.2 = .tc then dutiesAt g.2 else ∅
  unitless _ := False
  amount g _ _ := if g.2 = .reg barS then 1 else N
  payload g _ d := payAt m ρ g.1.1 d g.2
  amount_pos g _ _ _ := by
    by_cases h : g.2 = .reg barS
    · rw [if_pos h]; exact Nat.one_pos
    · rw [if_neg h]; exact N_pos

instance exRd_storable (g : GSem nD τ sig) (r : ℕ) (d : Fin 3) :
    BI.Storable (upEmb : UEmb _ 𝕄) ((exRd (F := F) m ρ).payload g r d) := by
  show BI.Storable upEmb (payAt m ρ g.1.1 d g.2)
  rcases g.2 with q | q
  · show BI.Storable upEmb (barPay g.1.1 d); unfold barPay; infer_instance
  · show BI.Storable upEmb (if 5 ≤ q.val then recvPay m ρ g.1.1 (Fin.ofNat 3 (q.val - 5)) else sendPay m ρ g.1.1 (Fin.ofNat 3 (q.val - 2)))
    unfold recvPay sendPay
    split <;> infer_instance

section Tables
variable (c : Dev nD) (i : Fin 3)

theorem dma_ne_bar (q : DmaSem sig) : (SemLoc.dma q : SemLoc sig) ≠ .reg barS := fun h => by cases h
theorem send_ne_recv (i j : Fin 3) : (SemLoc.dma (sendS i) : SemLoc sig) ≠ .dma (recvS j) := by revert i j; decide

theorem duties_bar : (exRd (F := F) m ρ).duties (barCell c) 0 = Finset.univ := by dsimp only [exRd]; exact if_pos ⟨rfl, rfl⟩
theorem duties_send : (exRd (F := F) m ρ).duties (sendCell c i) 0 = {0} := by
  dsimp only [exRd]; rw [if_pos ⟨rfl, rfl⟩]; exact if_pos (Nat.le_add_right 2 _)
theorem duties_recv : (exRd (F := F) m ρ).duties (recvCell c i) 0 = {0} := by
  dsimp only [exRd]; rw [if_pos ⟨rfl, rfl⟩]; exact if_pos (by show 2 ≤ 5 + i.val; omega)
theorem duties_later (g : GSem nD τ sig) : ∀ r, 1 ≤ r → (exRd (F := F) m ρ).duties g r = ∅ :=
  fun r hr => by dsimp only [exRd]; exact if_neg fun h => by omega

theorem amount_bar (d : Fin 3) : (exRd (F := F) m ρ).amount (barCell c) 0 d = 1 := by dsimp only [exRd]; exact if_pos rfl
theorem amount_dma (q : DmaSem sig) (d : Fin 3) : (exRd (F := F) m ρ).amount ((c : Thread nD τ), .dma q) 0 d = N := by
  dsimp only [exRd]; exact if_neg (dma_ne_bar q)

theorem expect_bar : (exRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (exRd (F := F) m ρ).expect (sendCell c i) 0 = N := by
  unfold Schedule.expect Schedule.amountOf; rw [duties_send, Finset.sum_singleton, amount_dma]
theorem expect_recv : (exRd (F := F) m ρ).expect (recvCell c i) 0 = N := by
  unfold Schedule.expect Schedule.amountOf; rw [duties_recv, Finset.sum_singleton, amount_dma]

theorem payload_bar : (exRd (F := F) m ρ).payload (barCell c) 0 i = barPay c i := rfl
theorem payload_send (d : Fin 3) : (exRd (F := F) m ρ).payload (sendCell c i) 0 d = sendPay m ρ c i := by
  show (if 5 ≤ 2 + i.val then recvPay m ρ c (Fin.ofNat 3 (2 + i.val - 5)) else sendPay m ρ c (Fin.ofNat 3 (2 + i.val - 2))) = _
  have := i.isLt
  rw [if_neg (by omega)]
  exact congrArg (sendPay m ρ c) (Fin.ext (by show (2 + i.val - 2) % 3 = i.val; omega))
theorem payload_recv (d : Fin 3) : (exRd (F := F) m ρ).payload (recvCell c i) 0 d = recvPay m ρ c i := by
  show (if 5 ≤ 5 + i.val then recvPay m ρ c (Fin.ofNat 3 (5 + i.val - 5)) else sendPay m ρ c (Fin.ofNat 3 (5 + i.val - 2))) = _
  have := i.isLt
  rw [if_pos (by omega)]
  exact congrArg (recvPay m ρ c) (Fin.ext (by show (5 + i.val - 5) % 3 = i.val; omega))

/-- All three payloads of the barrier's round. -/
theorem rest_bar : bigSep ((exRd (F := F) m ρ).duties (barCell c) 0 \ ∅) (fun d => (exRd (F := F) m ρ).payload (barCell c) 0 d)
    = iprop(barPay c 0 ∗ barPay c 1 ∗ barPay c 2) := by
  rw [Finset.sdiff_empty, duties_bar]
  exact bigSep_univ_eq_bigSepL [(0 : Fin 3), 1, 2] (by decide) (by decide) _
theorem rest_send : bigSep ((exRd (F := F) m ρ).duties (sendCell c i) 0 \ ∅) (fun d => (exRd (F := F) m ρ).payload (sendCell c i) 0 d)
    = sendPay m ρ c i := by
  rw [Finset.sdiff_empty, duties_send, bigSep_singleton, payload_send]
theorem rest_recv : bigSep ((exRd (F := F) m ρ).duties (recvCell c i) 0 \ ∅) (fun d => (exRd (F := F) m ρ).payload (recvCell c i) 0 d)
    = recvPay m ρ c i := by
  rw [Finset.sdiff_empty, duties_recv, bigSep_singleton, payload_recv]

end Tables

/-! ## What a device owes at the start, and the order of the waits -/

/-- The credit of copy `i`, owed to the arrival cell ahead; -/
abbrev oweR (c : Dev nD) (i : Fin 3) : CellTallies nD τ sig Unit := tallyAt (recvCell (up c i) i) () N
/-- the unit of telling `i`, owed to the barrier cell behind. -/
abbrev oweB (c : Dev nD) (i : Fin 3) : CellTallies nD τ sig Unit := tallyAt (barCell (down c i)) () 1

/-- What is owed before copy 2, copy 1 and copy 0; -/
def R₂ (c : Dev nD) : CellTallies nD τ sig Unit := 0 + oweR c 2
def R₁ (c : Dev nD) : CellTallies nD τ sig Unit := R₂ c + oweR c 1
def R₀ (c : Dev nD) : CellTallies nD τ sig Unit := R₁ c + oweR c 0
/-- before the last telling, the second and the first, which is at the start. -/
def B₀ (c : Dev nD) : CellTallies nD τ sig Unit := R₀ c + oweB c 0
def B₁ (c : Dev nD) : CellTallies nD τ sig Unit := B₀ c + oweB c 1
def O₀ (c : Dev nD) : CellTallies nD τ sig Unit := B₁ c + oweB c 2

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier cells come before the arrival cells, and everything else before both. -/
def lvOf : SemLoc sig → ℕ
  | .reg _ => 1
  | .dma q => if 5 ≤ q.val then 2 else 0
def lv (g : GSem nD τ sig) (_ : Unit) : ℕ := lvOf g.2

theorem lv_recv (c : Dev nD) (i : Fin 3) : lv (recvCell c i) () = 2 := by
  show (if 5 ≤ 5 + i.val then 2 else 0) = 2
  exact if_pos (Nat.le_add_right 5 _)

theorem tally_pos {g g' : GSem nD τ sig} {u u' : Unit} {k : ℕ} (h : 0 < (tallyAt g' u' k : CellTallies nD τ sig Unit) g u) : g = g' := by
  rw [tallyAt_apply] at h
  by_contra hn
  rw [if_neg fun h' => hn h'.1] at h
  exact Nat.lt_irrefl 0 h

theorem add_pos' {A B : CellTallies nD τ sig Unit} {g : GSem nD τ sig} {u : Unit} (h : 0 < (A + B) g u) : 0 < A g u ∨ 0 < B g u := by
  rw [Pi.add_apply, Finsupp.add_apply] at h; omega

theorem R₀_pos {c : Dev nD} {g : GSem nD τ sig} {u : Unit} (h : 0 < R₀ c g u) : ∃ i, g = recvCell (up c i) i := by
  unfold R₀ R₁ R₂ at h
  rcases add_pos' h with h | h
  · rcases add_pos' h with h | h
    · rcases add_pos' h with h | h
      · exact absurd h (Nat.lt_irrefl 0)
      · exact ⟨2, tally_pos h⟩
    · exact ⟨1, tally_pos h⟩
  · exact ⟨0, tally_pos h⟩

theorem O₀_pos {c : Dev nD} {g : GSem nD τ sig} {u : Unit} (h : 0 < O₀ c g u) :
    (∃ i, g = recvCell (up c i) i) ∨ ∃ i, g = barCell (down c i) := by
  unfold O₀ B₁ B₀ at h
  rcases add_pos' h with h | h
  · rcases add_pos' h with h | h
    · rcases add_pos' h with h | h
      · exact .inl (R₀_pos h)
      · exact .inr ⟨0, tally_pos h⟩
    · exact .inr ⟨1, tally_pos h⟩
  · exact .inr ⟨2, tally_pos h⟩

omit [FloatOps F] in
/-- The staging copies may be waited on whatever is owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => ?_) (fun g u hg => ?_)
    · rw [Finset.mem_singleton.mp hp]
      show (if 5 ≤ q.val then 2 else 0) ≤ 0
      rw [if_neg (by omega)]
    · rcases O₀_pos hg with ⟨i, rfl⟩ | ⟨i, rfl⟩
      · rw [show lv (recvCell (up c i) i) u = 2 from lv_recv _ i]; decide
      · exact Nat.one_pos
  · rw [MayWait_zero]; iintro -; iempintro

omit [FloatOps F] in
/-- At its barrier a device owes arrivals only. -/
theorem mayWait_bar (c : Dev nD) : (levAts L lv : sProp 𝕄) ⊢ MayWait (c : Thread nD τ) (.reg barS) () (R₀ c) :=
  MayOwe.of_cut (L := L) (lev := lv) 1 (fun p hp => by rw [Finset.mem_singleton.mp hp, L_tc]; exact Finset.mem_singleton_self _)
    (fun g u hg => by obtain ⟨i, rfl⟩ := R₀_pos hg; exact Finset.mem_singleton_self _)
    (fun p hp => by rw [Finset.mem_singleton.mp hp]; exact Nat.le_refl 1)
    (fun g u hg => by
      obtain ⟨i, rfl⟩ := R₀_pos hg
      rw [show lv (recvCell (up c i) i) u = 2 from lv_recv _ i]; decide)

end Cert.KernelIdeal.Scan

end
-- ==== Proof.StepsIdeal.lean ====
/-
# The steps of the exchange

One lemma per kind of step of the kernel's body, each stated once for every distance `i`: telling, waiting at the
barrier, copying ahead, waiting for an arrival, waiting for a departure, loading a row, storing row 0, and taking a cell
back at the end. Every lemma draws the cells it opens from `records`, the duplicable list of all cells of all devices.
-/
module

public import proofs.«01_k».proof.Proof.ProtocolIdeal

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The list of all cells -/

/-- Every cell of every device is under the schedule, at the name `K` gives it, and is open at round 0. -/
def records (K : Dev nD × Fin 7 → ℕ) : sProp 𝕄 :=
  iprop((bigSep Finset.univ fun ck : Dev nD × Fin 7 => cellInv EX (exRd m ρ) (K ck) (kcell ck))
    ∗ bigSep Finset.univ fun ck : Dev nD × Fin 7 => reached EX (kcell ck) 0)

instance records_persistent (K : Dev nD × Fin 7 → ℕ) : BI.Persistent (records m ρ K) := by unfold records; infer_instance

theorem record_inv (K : Dev nD × Fin 7 → ℕ) (ck : Dev nD × Fin 7) : records m ρ K ⊢ cellInv EX (exRd m ρ) (K ck) (kcell ck) := by
  have h : (bigSep Finset.univ fun ck : Dev nD × Fin 7 => (cellInv EX (exRd m ρ) (K ck) (kcell ck) : sProp 𝕄))
      ⊢ cellInv EX (exRd m ρ) (K ck) (kcell ck) := bigSep_elim (Finset.mem_univ ck)
  unfold records
  iintro ⟨#H, -⟩
  iapply h; iexact H
theorem record_open (K : Dev nD × Fin 7 → ℕ) (ck : Dev nD × Fin 7) : records m ρ K ⊢ (reached EX (kcell ck) 0 : sProp 𝕄) := by
  have h : (bigSep Finset.univ fun ck : Dev nD × Fin 7 => (reached EX (kcell ck) 0 : sProp 𝕄))
      ⊢ reached EX (kcell ck) 0 := bigSep_elim (Finset.mem_univ ck)
  unfold records
  iintro ⟨-, #H⟩
  iapply h; iexact H

theorem inv_send (K : Dev nD × Fin 7 → ℕ) (c : Dev nD) (i : Fin 3) :
    records m ρ K ⊢ cellInv EX (exRd m ρ) (K (c, sendK i)) (sendCell c i) := by
  rw [← kcell_send]; exact record_inv m ρ K _
theorem inv_recv (K : Dev nD × Fin 7 → ℕ) (c : Dev nD) (i : Fin 3) :
    records m ρ K ⊢ cellInv EX (exRd m ρ) (K (c, recvK i)) (recvCell c i) := by
  rw [← kcell_recv]; exact record_inv m ρ K _
theorem open_send (K : Dev nD × Fin 7 → ℕ) (c : Dev nD) (i : Fin 3) : records m ρ K ⊢ (reached EX (sendCell c i) 0 : sProp 𝕄) := by
  rw [← kcell_send]; exact record_open m ρ K _
theorem open_recv (K : Dev nD × Fin 7 → ℕ) (c : Dev nD) (i : Fin 3) : records m ρ K ⊢ (reached EX (recvCell c i) 0 : sProp 𝕄) := by
  rw [← kcell_recv]; exact record_open m ρ K _

/-! ## The steps -/

section Steps

variable (K : Dev nD × Fin 7 → ℕ)

/-- Telling the device `i + 1` places behind that its copy may come, handing it row `i + 1`. -/
theorem wp_tell {α : Type} {Q : α → sProp 𝕄} (c n : Dev nD) (i : Fin 3) (hn : n = down c i) (v : ℤ) (hv : v = 1)
    {k : PUnit → Prog (TpuEff nD τ sig (Elt F) Λ₀ .tc) α} (O W) (f : (cc0_scratch0 : Ref sig .tc).ty.Contents (Elt F)) :
    iprop(records m ρ K ∗ owes (c : Thread nD τ) (O + oweB c i) W ∗ dutyTok EX (barCell (down c i)) 0 i ∗ rowAt c i.succ fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS v) k) Q) := by
  subst hn hv
  iintro ⟨#HR, HO, Ht, Hrow⟩
  iapply (Rounds.wp_signal 𝒱₀ EX (exRd m ρ) (c : Thread nD τ) none (dst := (down c i : Thread nD τ)) (κ := K (down c i, 0))
      (d := i) (by rw [duties_bar]; exact Finset.mem_univ _) ((amount_bar m ρ (down c i) i).trans (by decide)) () O rfl)
  isplitr; · iapply (record_inv m ρ K (down c i, 0)); iexact HR
  isplitl [HO]; · iexact HO
  isplitl [Ht]; · iexact Ht
  isplitl [Hrow]
  · rw [payload_bar]; unfold barPay; rw [up_down]
    isplitl [Hrow]; · iexists f; iexact Hrow
    iapply (open_recv m ρ K c i); iexact HR
  iapply (record_open m ρ K (down c i, 0)); iexact HR

/-- Waiting for the three tellings, while owing the three arrivals. -/
theorem wp_barrier {α : Type} {Q : α → sProp 𝕄} (c : Dev nD) (v : ℤ) (hv : v = 3)
    {k : PUnit → Prog (TpuEff nD τ sig (Elt F) Λ₀ .tc) α} (W) :
    iprop(records m ρ K ∗ levAts L lv ∗ cred (tallyAt (barCell c) () 3) ∗ owes (c : Thread nD τ) (R₀ c) W ∗ atPos EX (barCell c) 0 ∅ 0)
      ⊢ iprop(((∃ W', owes (c : Thread nD τ) (R₀ c) W') ∗ atPos EX (barCell c) 1 ∅ 0 ∗ barPay c 0 ∗ barPay c 1 ∗ barPay c 2
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS v) k) Q) := by
  subst hv
  iintro ⟨#HR, #Hlev, Hc, HO, Hat⟩ Hk
  iapply (Rounds.wp_wait_rest_token 𝒱₀ EX (exRd m ρ) (c : Thread nD τ) none (κ := K (c, 0))
      (wpE_semWait_eq 𝒱₀ (c : Thread nD τ) none Set.univ) (Set.mem_univ _) () (O := R₀ c) (W := W) (R := 0) (m := 0) (T := ∅)
      (k' := 3) (by rw [expect_bar])) $$ [Hc HO Hat]
  · isplitr; · iapply (record_inv m ρ K (c, 0)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexists _; iassumption
  isplitl [Hat]; · iexact Hat
  iapply (Entails.of_eq (rest_bar m ρ c)); iexact Hpay

/-- Copying row 0 ahead into row `i + 1`: a third of row 0 goes out with the copy, and so does the destination. -/
theorem wp_ahead {α : Type} {Q : α → sProp 𝕄} (c n : Dev nD) (i : Fin 3) (hn : n = up c i)
    {hsc : (rowM i.succ : Memref sig (Dev.tc n : Thread nD τ).2.kind .vmem S1x256 .f32).view.ref.isScScratch = false}
    {hsrc : (rowM 0).view.WordExact} {hdst : (rowM i.succ).view.WordExact}
    {hsem : DmaTarget.Typed .vmem (.dma (recvS i)) (.remote (Dev.tc n : Thread nD τ) (rowM i.succ) (.dma (sendS i)) hsc)}
    {k : PUnit → Prog (TpuEff nD τ sig (Elt F) Λ₀ .tc) α} (O W) :
    iprop(records m ρ K ∗ rowAt c 0 (third i) (rowBuf (sums m ρ c)) ∗ barPay c i ∗ owes (c : Thread nD τ) (O + oweR c i) W
        ∗ dutyTok EX (sendCell c i) 0 0 ∗ dutyTok EX (recvCell (up c i) i) 0 0)
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc n : Thread nD τ) (rowM i.succ) (.dma (sendS i)) hsc) (.dma (recvS i)) hsrc hdst hsem) k) Q) := by
  subst hn
  iintro ⟨#HR, Hsrc, Hbar, HO, HtS, HtR⟩
  unfold barPay
  icases Hbar with ⟨⟨%fd, Hdst⟩, #Hr⟩
  have hpay₁ : (((rowM 0).view.loc (c : Thread nD τ)) ↦[(rowM 0).view.set]{third i} (rowBuf (sums m ρ c)) : sProp 𝕄)
      ⊢ (exRd m ρ).payload (sendCell c i) 0 0 := by
    rw [payload_send, rowM_set]; exact BI.Entails.refl _
  have hpay₂ : (((rowM i.succ).view.loc (up c i : Thread nD τ)) ↦[(rowM i.succ).view.set]{fullShare}
        ((rowM i.succ).view.write (Elt F) fd ((rowM 0).view.read (Elt F) (rowBuf (sums m ρ c))) Finset.univ) : sProp 𝕄)
      ⊢ (exRd m ρ).payload (recvCell (up c i) i) 0 0 := by
    rw [payload_recv, rowM_set]; unfold recvPay; rw [down_up]
    exact Entails.of_eq (pointsTo_congr fun k hk => copy_rowBuf 0 i.succ fd (sums m ρ c) k hk)
  have H := Rounds.wp_send_pointsTo (Q := Q) (k := k) (defs := defs₀ (F := F)) (Γ := []) (Es := Set.univ) 𝒱₀ EX (exRd m ρ) (c : Thread nD τ) none
    (c' := (up c i : Thread nD τ)) (src := rowM 0) (dst := rowM i.succ) (sS := .dma (sendS i)) (sem := .dma (recvS i))
    (hsc := hsc) (hsrc := hsrc) (hdst := hdst) (hsem := hsem) (κ₁ := K (c, sendK i)) (κ₂ := K (up c i, recvK i))
    (r₁ := 0) (r₂ := 0) (d₁ := 0) (d₂ := 0)
    (by rw [duties_send]; exact Finset.mem_singleton_self _) (by rw [duties_recv]; exact Finset.mem_singleton_self _)
    () () N (credit_row i.succ) (amount_dma m ρ c _ 0) (amount_dma m ρ (up c i) _ 0) O rfl (W := W) hpay₁ hpay₂
  rw [rowM_set, rowM_set] at H
  iapply H
  isplitr; · iapply (inv_send m ρ K c i); iexact HR
  isplitr; · iapply (inv_recv m ρ K (up c i) i); iexact HR
  isplitl [Hsrc]; · unfold rowAt; iexact Hsrc
  isplitl [Hdst]; · unfold rowAt; iexact Hdst
  isplitl [HO]; · iexact HO
  isplitl [HtS]; · iexact HtS
  isplitr; · iapply (open_send m ρ K c i); iexact HR
  isplitl [HtR]; · iexact HtR
  iexact Hr

/-- Waiting for arrival `i`: row `i + 1` holds the column sums of the device `i + 1` places behind. -/
theorem wp_arrival {α : Type} {Q : α → sProp 𝕄} (c : Dev nD) (i : Fin 3) (s : Fin 4) (hs : s = i.succ) {src dst : Memref sig .tc .vmem S1x256 .f32} (hN : dst.view.dmaCredit = N)
    {hsrc : src.view.WordExact} {hdst : dst.view.WordExact} {k : PUnit → Prog (TpuEff nD τ sig (Elt F) Λ₀ .tc) α} (W) :
    iprop(records m ρ K ∗ cred (tallyAt (recvCell c i) () N) ∗ owes (c : Thread nD τ) 0 W ∗ atPos EX (recvCell c i) 0 ∅ 0)
      ⊢ iprop(((∃ W', owes (c : Thread nD τ) 0 W') ∗ atPos EX (recvCell c i) 1 ∅ 0 ∗ rowAt c s fullShare (rowBuf (sums m ρ (down c i)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) src dst hsrc hdst) k) Q) := by
  subst hs
  iintro ⟨#HR, Hc, HO, Hat⟩ Hk
  iapply (Rounds.wp_wait_rest_token 𝒱₀ EX (exRd m ρ) (c : Thread nD τ) none (κ := K (c, recvK i))
      (wpE_waitDma2_eq 𝒱₀ (c : Thread nD τ) none Set.univ) (Set.mem_univ _) () (O := 0) (W := W) (R := 0) (m := 0) (T := ∅)
      (k' := dst.view.dmaCredit) (by rw [expect_recv, hN, Nat.zero_add])) $$ [Hc HO Hat]
  · isplitr; · iapply (inv_recv m ρ K c i); iexact HR
    isplitl [Hc]; · rw [hN]; iexact Hc
    isplitl [HO]; · iexact HO
    isplitr; · rw [MayWait_zero]; iempintro
    iexact Hat
  iintro ⟨HO, Hat, -, Hpay⟩
  iapply Hk
  isplitl [HO]; · iexists _; iassumption
  isplitl [Hat]; · iexact Hat
  ihave Hp := (Entails.of_eq (rest_recv m ρ c i)) $$ Hpay
  unfold recvPay
  iexact Hp

/-- Waiting for departure `i`: the third of row 0 is back. -/
theorem wp_departure {α : Type} {Q : α → sProp 𝕄} (c : Dev nD) (i : Fin 3) {src dst : Memref sig .tc .vmem S1x256 .f32} (hN : dst.view.dmaCredit = N)
    {hsrc : src.view.WordExact} {hdst : dst.view.WordExact} {k : PUnit → Prog (TpuEff nD τ sig (Elt F) Λ₀ .tc) α} (W) :
    iprop(records m ρ K ∗ cred (tallyAt (sendCell c i) () N) ∗ owes (c : Thread nD τ) 0 W ∗ atPos EX (sendCell c i) 0 ∅ 0)
      ⊢ iprop(((∃ W', owes (c : Thread nD τ) 0 W') ∗ atPos EX (sendCell c i) 1 ∅ 0 ∗ rowAt c 0 (third i) (rowBuf (sums m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) src dst hsrc hdst) k) Q) := by
  iintro ⟨#HR, Hc, HO, Hat⟩ Hk
  iapply (Rounds.wp_wait_rest_token 𝒱₀ EX (exRd m ρ) (c : Thread nD τ) none (κ := K (c, sendK i))
      (wpE_waitDma2_eq 𝒱₀ (c : Thread nD τ) none Set.univ) (Set.mem_univ _) () (O := 0) (W := W) (R := 0) (m := 0) (T := ∅)
      (k' := dst.view.dmaCredit) (by rw [expect_send, hN, Nat.zero_add])) $$ [Hc HO Hat]
  · isplitr; · iapply (inv_send m ρ K c i); iexact HR
    isplitl [Hc]; · rw [hN]; iexact Hc
    isplitl [HO]; · iexact HO
    isplitr; · rw [MayWait_zero]; iempintro
    iexact Hat
  iintro ⟨HO, Hat, -, Hpay⟩
  iapply Hk
  isplitl [HO]; · iexists _; iassumption
  isplitl [Hat]; · iexact Hat
  ihave Hp := (Entails.of_eq (rest_send m ρ c i)) $$ Hpay
  unfold sendPay
  iexact Hp

/-- Loading a row, at whatever contents. -/
theorem wp_row_load {α : Type} {Q : α → sProp 𝕄} (c : Dev nD) (s : Fin 4) (q) (f : (cc0_scratch0 : Ref sig .tc).ty.Contents (Elt F)) {h}
    {k : Vec F S1x1x256 .f32 → Prog (TpuEff nD τ sig (Elt F) Λ₀ .tc) α} :
    (rowAt c s q f : sProp 𝕄)
      ⊢ iprop((rowAt c s q f
            -∗ wp frame (wpE (defs₀ (F := F)) 𝒱₀ (c : Thread nD τ) none) Set.univ (k (scrM.view.readAt (Elt F) (rowR s).toLoadRect f)) Q)
          -∗ wp frame (wpE (defs₀ (F := F)) 𝒱₀ (c : Thread nD τ) none) Set.univ (.op (.load scrM (rowR s).toLoadRect h) k) Q) := by
  unfold rowAt
  exact wp_load 𝒱₀ (c : Thread nD τ) none Set.univ (m := scrM) (rowR_load s)

/-- Loading a row that holds `y` gives `y`. -/
theorem wp_row_read {α : Type} {Q : α → sProp 𝕄} (c : Dev nD) (s : Fin 4) (q) (y : FVec F S1x1x256 .f32) {h}
    {k : Vec F S1x1x256 .f32 → Prog (TpuEff nD τ sig (Elt F) Λ₀ .tc) α} :
    (rowAt c s q (rowBuf y) : sProp 𝕄)
      ⊢ iprop((rowAt c s q (rowBuf y)
            -∗ wp frame (wpE (defs₀ (F := F)) 𝒱₀ (c : Thread nD τ) none) Set.univ (k y) Q)
          -∗ wp frame (wpE (defs₀ (F := F)) 𝒱₀ (c : Thread nD τ) none) Set.univ (.op (.load scrM (rowR s).toLoadRect h) k) Q) := by
  have H := wp_row_load (Q := Q) (k := k) (h := h) c s q (rowBuf y)
  rw [read_rowBuf] at H
  exact H

/-- Storing `y` into a row leaves it holding `y`. -/
theorem wp_row_store {α : Type} {Q : α → sProp 𝕄} (c : Dev nD) (s : Fin 4) (f : (cc0_scratch0 : Ref sig .tc).ty.Contents (Elt F)) (y : FVec F S1x1x256 .f32) {h₁ h₂}
    {k : PUnit → Prog (TpuEff nD τ sig (Elt F) Λ₀ .tc) α} :
    (rowAt c s fullShare f : sProp 𝕄)
      ⊢ iprop((rowAt c s fullShare (rowBuf y)
            -∗ wp frame (wpE (defs₀ (F := F)) 𝒱₀ (c : Thread nD τ) none) Set.univ (k ⟨⟩) Q)
          -∗ wp frame (wpE (defs₀ (F := F)) 𝒱₀ (c : Thread nD τ) none) Set.univ (.op (.store scrM (rowR s) y Finset.univ h₁ h₂) k) Q) := by
  rw [← rowAt_congr (F := F) c s fullShare (store_rowBuf s f y)]
  unfold rowAt
  exact wp_store 𝒱₀ (c : Thread nD τ) none Set.univ (m := scrM) (r := rowR s) (Mk := Finset.univ) (by
    rw [View.setOn_univ, rowR_access])

/-- A cell whose one round is over gives its semaphore back at zero. -/
theorem take_back (ck : Dev nD × Fin 7) :
    iprop(records m ρ K ∗ atPos EX (kcell ck) 1 ∅ 0) ⊢ (iprop(|={Set.univ}=> semVal (kcell ck) 0) : sProp 𝕄) := by
  iintro ⟨#HR, Hat⟩
  iapply (Rounds.cell_close EX (exRd m ρ) (Set.mem_univ (K ck)) (fun h => h) (R := 0 + 1) (duties_later m ρ (kcell ck)))
  isplitr; · iapply (record_inv m ρ K ck); iexact HR
  iexact Hat

end Steps

end Cert.KernelIdeal.Scan

end
-- ==== Proof.BodyIdeal.lean ====
/-
# The kernel's body on one device

What a device holds when its body starts, what it holds when its body ends, and that the body leads from the one to the
other. The device is arbitrary, so this is done once. The body is gone through effect by effect with the steps of
`StepsIdeal`.
-/
module

public import proofs.«01_k».proof.Proof.StepsIdeal

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
/-- The kernel has one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What the kernel computes -/

/-- The device's position on the ring as a word; -/
abbrev posW (c : Dev nD) : BitVec 32 := Scalar.remsi (Scalar.divsi (Dev.word c) 1#32) 4#32
/-- the number of devices as the kernel's remainder takes it; -/
abbrev lenW : BitVec 32 := Scalar.select (Scalar.cmpi .eq 4#32 0#32) 1#32 4#32
/-- the position `k` places behind before it is brought into range, -/
abbrev rawW (c : Dev nD) (k : BitVec 32) : BitVec 32 := Scalar.remsi (Scalar.subi (posW c) k) lenW
/-- and after; -/
abbrev backW (c : Dev nD) (k : BitVec 32) : BitVec 32 :=
  Scalar.select (Scalar.andi (Scalar.xori (Scalar.cmpi .slt (rawW c k) 0#32) (Scalar.cmpi .slt lenW 0#32)) (Scalar.cmpi .ne (rawW c k) 0#32))
    (Scalar.addi (rawW c k) lenW) (rawW c k)

/-- The sum of what has come from one and two places behind, as far as those devices come before `c`. -/
def carry₂ (c : Dev nD) : FVec F S1x256 .f32 :=
  k0_pay5 (posW c) (k0_pay4 (posW c) (k0_pay3 (F := F)) (sums m ρ (down c 0))) lenW (rawW c 2#32) (sums m ρ (down c 1))

/-- Device `c`'s block of the result: its own running sums, plus the sums of all the devices before it. -/
def outAt (c : Dev nD) : (cc0_stg1_0 : Ref sig .tc).ty.Contents (Elt F) :=
  k0_pay6 (k0_pay2 (xstg m ρ c)) (carry₂ m ρ c) (Scalar.cmpi .slt (backW c 3#32) (posW c)) (sums m ρ (down c 2))

/-! ## What a device starts from and ends with -/

/-- The tokens of the duties device `c` pays. -/
def payToks (c : Dev nD) : sProp 𝕄 :=
  bigSep Finset.univ fun i : Fin 3 =>
    iprop(dutyTok EX (barCell (down c i)) 0 i ∗ dutyTok EX (recvCell (up c i) i) 0 0 ∗ dutyTok EX (sendCell c i) 0 0)

/-- Its positions at its own seven cells, and those tokens. -/
def linear (c : Dev nD) : sProp 𝕄 :=
  iprop((bigSep Finset.univ fun k : Fin 7 => atPos EX (kcell (c, k)) 0 ∅ 0) ∗ payToks c)

def ghost (K : Dev nD × Fin 7 → ℕ) (c : Dev nD) : sProp 𝕄 := iprop(records m ρ K ∗ linear c)

/-- The credit it waits with: three units at the barrier, a copy's at each arrival. -/
def creds (c : Dev nD) : sProp 𝕄 :=
  iprop(cred (tallyAt (barCell c) () 3) ∗ bigSep Finset.univ fun i : Fin 3 => cred (tallyAt (recvCell c i) () N))

def start (c : Dev nD) : sProp 𝕄 := iprop((∃ K, ghost m ρ K c) ∗ creds c ∗ levAts L lv)

/-- The exchange buffer, held whole at some contents. -/
def scratch (c : Dev nD) : sProp 𝕄 :=
  iprop(∃ f, (((c : Thread nD τ).loc cc0_scratch0) ↦{fullShare} (f : Buf (Elt F) ((c : Thread nD τ).loc cc0_scratch0))))

def Φ₀ (c : Dev nD) : sProp 𝕄 := iprop(start m ρ c ∗ scratch c)
/-- After the point: the exchange buffer again, and all seven semaphores at zero. -/
def Φ₁ (c : Dev nD) : sProp 𝕄 := iprop(scratch c ∗ bigSep Finset.univ fun k : Fin 7 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
/-- Three of a thing are the thing at 0, at 1 and at 2; -/
theorem three (Φ : Fin 3 → sProp 𝕄) : bigSep Finset.univ Φ = iprop(Φ 0 ∗ Φ 1 ∗ Φ 2) :=
  bigSep_univ_eq_bigSepL [(0 : Fin 3), 1, 2] (by decide) (by decide) Φ
omit [FloatOps F] in
/-- and likewise seven. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- All seven cells, their rounds over, give their semaphores back at zero. -/
theorem all_back (K : Dev nD × Fin 7 → ℕ) (c : Dev nD) :
    iprop(records m ρ K ∗ bigSep Finset.univ fun k : Fin 7 => atPos EX (kcell (c, k)) 1 ∅ 0)
      ⊢ (iprop(|={Set.univ}=> bigSep Finset.univ fun k : Fin 7 => semVal (kcell (c, k)) 0) : sProp 𝕄) := by
  refine (sep_mono_left (BI.bigSep_of_persistent (Finset.univ : Finset (Fin 7)) (records m ρ K))).trans ?_
  rw [← bigSep_sep']
  exact (bigSep_mono fun k _ => take_back m ρ K (c, k)).trans (bigSep_fupd _ _)

/-! ## The body -/

section Body

variable (K : Dev nD × Fin 7 → ℕ)

abbrev wholeR : Rect S256x256 := Rect.unit (s := S256x256) ![0, 0] S256x256.size inb_S256x256_S256x256_0_0
abbrev xM : Memref sig .tc .vmem S256x256 .f32 := Memref.whole cc0_stg0_0
abbrev oM : Memref sig .tc .vmem S256x256 .f32 := Memref.whole cc0_stg1_0

theorem origin : (![0, 0] : Fin 2 → Nat) = fun _ => 0 := funext fun a => by fin_cases a <;> rfl
omit [FloatOps F] in
theorem read_x (f : (cc0_stg0_0 : Ref sig .tc).ty.Contents (Elt F)) : xM.view.readAt (Elt F) wholeR.toLoadRect f = f :=
  Memref.readAt_unit_zero (Elt F) cc0_stg0_0 origin _ f
omit [FloatOps F] in
theorem write_out (f w : (cc0_stg1_0 : Ref sig .tc).ty.Contents (Elt F)) :
    (oM.access wholeR : View sig .tc _ _ _).write (Elt F) f w Finset.univ = w :=
  Memref.write_access_unit_zero_univ (Elt F) cc0_stg1_0 origin _ f w

/-- Device `c`'s buffer `b`, owned outright and holding `X`. -/
abbrev holds (c : Dev nD) (b : Ref sig .tc) (X : b.ty.Contents (Elt F)) : sProp 𝕄 := ((c : Thread nD τ).loc b) ↦{fullShare} X

def bodyPre (c : Dev nD) : sProp 𝕄 :=
  iprop((ghost m ρ K c ∗ creds c ∗ levAts L lv ∗ scratch c)
    ∗ (dats m ρ 0 c).owesAt () t₀.castSucc
    ∗ (∃ d, holds c cc0_stg0_0 ((dats m ρ 0 c).before (0 : Fin 2) t₀ d))
    ∗ (∃ d, holds c cc0_stg1_0 ((dats m ρ 0 c).before (1 : Fin 2) t₀ d)))

def bodyPost (c : Dev nD) : sProp 𝕄 :=
  iprop(Φ₁ c ∗ (dats m ρ 0 c).owesAt () t₀.succ ∗ holds c cc0_stg0_0 (xstg m ρ c) ∗ holds c cc0_stg1_0 (outAt m ρ c))

set_option maxHeartbeats 800000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost linear payToks creds scratch
  rw [seven, three, three]
  iintro ⟨⟨⟨⟨#HR, ⟨HaB, HaS0, HaS1, HaS2, HaR0, HaR1, HaR2⟩, ⟨HtB0, HtR0, HtS0⟩, ⟨HtB1, HtR1, HtS1⟩, HtB2, HtR2, HtS2⟩,
    ⟨HcB, HcR0, HcR1, HcR2⟩, #Hlev, ⟨%f0, Hscr⟩⟩,
    Ho, ⟨%d0, Hx⟩, ⟨%d1, Hout⟩⟩, Hk⟩
  rw [show (dats m ρ 0 c).before (0 : Fin 2) t₀ d0 = xstg m ρ c from if_pos (fetch_0 t₀)]
  unfold Dat.owesAt Pipeline.owesWithin
  icases Ho with ⟨%W, %hW, HO⟩
  rw [show (dats m ρ 0 c).owed t₀.castSucc = O₀ c from rfl]
  ihave Hrows := (Entails.of_eq (rows_split c f0)) $$ Hscr
  icases Hrows with ⟨H0, H1, H2, H3⟩
  -- the three tellings
  unfold O₀
  iapply (wp_tell m ρ K c _ 2 (dev1_eq c) _ (by decide) (B₁ c) W f0) $$ [HO HtB2 H3]
  · isplitr; · iexact HR
    isplitl [HO]; · iexact HO
    isplitl [HtB2]; · iexact HtB2
    iexact H3
  iintro HO
  unfold B₁
  iapply (wp_tell m ρ K c _ 1 (dev2_eq c) _ (by decide) (B₀ c) W f0) $$ [HO HtB1 H2]
  · isplitr; · iexact HR
    isplitl [HO]; · iexact HO
    isplitl [HtB1]; · iexact HtB1
    iexact H2
  iintro HO
  unfold B₀
  iapply (wp_tell m ρ K c _ 0 (dev3_eq c) _ (by decide) (R₀ c) W f0) $$ [HO HtB0 H1]
  · isplitr; · iexact HR
    isplitl [HO]; · iexact HO
    isplitl [HtB0]; · iexact HtB0
    iexact H1
  iintro HO
  -- its own column sums into row 0
  iapply (wp_load 𝒱₀ (c : Thread nD τ) none Set.univ (m := xM) (Finset.subset_univ _)) $$ Hx; iintro Hx
  rw [read_x]
  iapply (wp_row_load c 0 fullShare f0) $$ H0; iintro H0
  iapply (wp_row_store c 0 f0 (sums m ρ c)) $$ H0; iintro H0
  -- the wait for the three tellings
  iapply (wp_barrier m ρ K c _ (by decide) W) $$ [HcB HO HaB]
  · isplitr; · iexact HR
    isplitr; · iexact Hlev
    isplitl [HcB]; · iexact HcB
    isplitl [HO]; · iexact HO
    iexact HaB
  iintro ⟨⟨%W0, HO⟩, HaB, Hb0, Hb1, Hb2⟩
  -- the three copies, a third of row 0 with each
  ihave H0' := ((rowAt_thirds c 0 (rowBuf (sums m ρ c))).1) $$ H0
  icases H0' with ⟨Ht0, Ht1, Ht2⟩
  unfold R₀
  iapply (wp_ahead m ρ K c _ 0 (dev4_eq c) (R₁ c) W0) $$ [Ht0 Hb0 HO HtS0 HtR0]
  · isplitr; · iexact HR
    isplitl [Ht0]; · iexact Ht0
    isplitl [Hb0]; · iexact Hb0
    isplitl [HO]; · iexact HO
    isplitl [HtS0]; · iexact HtS0
    iexact HtR0
  iintro ⟨HcS0, HO⟩
  unfold R₁
  iapply (wp_ahead m ρ K c _ 1 (dev5_eq c) (R₂ c) W0) $$ [Ht1 Hb1 HO HtS1 HtR1]
  · isplitr; · iexact HR
    isplitl [Ht1]; · iexact Ht1
    isplitl [Hb1]; · iexact Hb1
    isplitl [HO]; · iexact HO
    isplitl [HtS1]; · iexact HtS1
    iexact HtR1
  iintro ⟨HcS1, HO⟩
  unfold R₂
  iapply (wp_ahead m ρ K c _ 2 (dev6_eq c) 0 W0) $$ [Ht2 Hb2 HO HtS2 HtR2]
  · isplitr; · iexact HR
    isplitl [Ht2]; · iexact Ht2
    isplitl [Hb2]; · iexact Hb2
    isplitl [HO]; · iexact HO
    isplitl [HtS2]; · iexact HtS2
    iexact HtR2
  iintro ⟨HcS2, HO⟩
  -- its own block once more
  iapply (wp_load 𝒱₀ (c : Thread nD τ) none Set.univ (m := xM) (Finset.subset_univ _)) $$ Hx; iintro Hx
  rw [read_x]
  -- the three arrivals, each row read as it comes
  iapply (wp_arrival m ρ K c 0 1 rfl (credit_row 1) W0) $$ [HcR0 HO HaR0]
  · isplitr; · iexact HR
    isplitl [HcR0]; · iexact HcR0
    isplitl [HO]; · iexact HO
    iexact HaR0
  iintro ⟨⟨%W1, HO⟩, HaR0, Hr0⟩
  iapply (wp_row_read c 1 fullShare (sums m ρ (down c 0))) $$ Hr0; iintro Hr0
  iapply (wp_arrival m ρ K c 1 2 rfl (credit_row 2) W1) $$ [HcR1 HO HaR1]
  · isplitr; · iexact HR
    isplitl [HcR1]; · iexact HcR1
    isplitl [HO]; · iexact HO
    iexact HaR1
  iintro ⟨⟨%W2, HO⟩, HaR1, Hr1⟩
  iapply (wp_row_read c 2 fullShare (sums m ρ (down c 1))) $$ Hr1; iintro Hr1
  iapply (wp_arrival m ρ K c 2 3 rfl (credit_row 3) W2) $$ [HcR2 HO HaR2]
  · isplitr; · iexact HR
    isplitl [HcR2]; · iexact HcR2
    isplitl [HO]; · iexact HO
    iexact HaR2
  iintro ⟨⟨%W3, HO⟩, HaR2, Hr2⟩
  iapply (wp_row_read c 3 fullShare (sums m ρ (down c 2))) $$ Hr2; iintro Hr2
  -- the result
  iapply (wp_load 𝒱₀ (c : Thread nD τ) none Set.univ (m := oM) (Finset.subset_univ _)) $$ Hout; iintro Hout
  iapply (wp_store 𝒱₀ (c : Thread nD τ) none Set.univ (m := oM) (r := wholeR) (Mk := Finset.univ) (Finset.subset_univ _)) $$ Hout; iintro Hout
  rw [write_out]
  -- the three departures, row 0 back third by third
  iapply (wp_departure m ρ K c 0 (credit_row 0) W3) $$ [HcS0 HO HaS0]
  · isplitr; · iexact HR
    isplitl [HcS0]; · iexact HcS0
    isplitl [HO]; · iexact HO
    iexact HaS0
  iintro ⟨⟨%W4, HO⟩, HaS0, Ht0⟩
  iapply (wp_departure m ρ K c 1 (credit_row 0) W4) $$ [HcS1 HO HaS1]
  · isplitr; · iexact HR
    isplitl [HcS1]; · iexact HcS1
    isplitl [HO]; · iexact HO
    iexact HaS1
  iintro ⟨⟨%W5, HO⟩, HaS1, Ht1⟩
  iapply (wp_departure m ρ K c 2 (credit_row 0) W5) $$ [HcS2 HO HaS2]
  · isplitr; · iexact HR
    isplitl [HcS2]; · iexact HcS2
    isplitl [HO]; · iexact HO
    iexact HaS2
  iintro ⟨⟨%W6, HO⟩, HaS2, Ht2⟩
  ihave H0 := ((rowAt_thirds c 0 (rowBuf (sums m ρ c))).2) $$ [Ht0 Ht1 Ht2]
  · isplitl [Ht0]; · iexact Ht0
    isplitl [Ht1] <;> iassumption
  ihave Hscr := (rows_join c (rowBuf (sums m ρ c)) (rowBuf (sums m ρ (down c 0))) (rowBuf (sums m ρ (down c 1))) (rowBuf (sums m ρ (down c 2)))) $$ [H0 Hr0 Hr1 Hr2]
  · isplitl [H0]; · iexact H0
    isplitl [Hr0]; · iexact Hr0
    isplitl [Hr1] <;> iassumption
  -- all seven semaphores back
  imod (all_back m ρ K c) $$ [HaB HaS0 HaS1 HaS2 HaR0 HaR1 HaR2] with Hz
  · isplitr; · iexact HR
    rw [seven]
    isplitl [HaB]; · iexact HaB
    isplitl [HaS0]; · iexact HaS0
    isplitl [HaS1]; · iexact HaS1
    isplitl [HaS2]; · iexact HaS2
    isplitl [HaR0]; · iexact HaR0
    isplitl [HaR1] <;> iassumption
  rw [wp_ret]; imodintro
  iapply Hk
  unfold bodyPost Φ₁ scratch Dat.owesAt Pipeline.owesWithin
  rw [show (dats m ρ 0 c).owed t₀.succ = 0 from rfl]
  isplitl [Hscr Hz]
  · isplitl [Hscr] <;> iassumption
  isplitl [HO]
  · iexists W6
    isplitr; · ipureintro; exact fun _ _ => Or.inl trivial
    iexact HO
  isplitl [Hx]; · iexact Hx
  iexact Hout

end Body

end Cert.KernelIdeal.Scan

end
-- ==== Proof.RunIdeal.lean ====
/-
# The run of the four devices

From any memory, with every semaphore at zero, the four devices running the kernel finish, each with its block of the
result computed, its block of the argument as it was, and every semaphore at zero again. The launch theorem of the
pipeline library does the work; what it asks for is the body of `BodyIdeal`, the cells allocated for all devices at
once, and the credit each cell is owed.
-/
module

public import proofs.«01_k».proof.Proof.BodyIdeal
public import Idealize.ShloMosaic.Lib.Pipeline.CollectiveSegs

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole]
  show iprop(Φ₀ m ρ c ∗ (dats m ρ 0 c).owesAt () t₀.castSucc
      ∗ (∃ d, holds c cc0_stg0_0 ((dats m ρ 0 c).before (0 : Fin 2) t₀ d))
      ∗ (∃ d, holds c cc0_stg1_0 ((dats m ρ 0 c).before (1 : Fin 2) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c)
  unfold Φ₀ start
  iintro ⟨⟨⟨⟨%K, Hg⟩, Hc, Hl⟩, Hscr⟩, Hrest⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    iexact Hrest
  · iintro H; iexact H

/-! ## The cells and tokens allocated at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h
  fin_cases k <;> fin_cases k' <;> first | rfl | exact absurd h (by decide)

theorem kcell_injective : Function.Injective (kcell : Dev nD × Fin 7 → GSem nD τ sig) := fun a b h =>
  Prod.ext (congrArg (fun g : GSem nD τ sig => g.1.1) h) (csem_injective (congrArg Prod.snd h))

/-- All cells of all devices. -/
def allCells : Finset (GSem nD τ sig) := Finset.univ.map ⟨kcell, kcell_injective⟩

/-- The semaphore and the name of a device's duties at distance `i`: the barrier's, the arrival's, the departure's. -/
abbrev tokSem (x : Fin 3 × Fin 3) : SemLoc sig × Fin 3 := match x.2 with
  | 0 => (.reg barS, x.1) | 1 => (.dma (recvS x.1), 0) | 2 => (.dma (sendS x.1), 0)

theorem tokSem_injective : ∀ x y : Fin 3 × Fin 3, tokSem x = tokSem y → x = y := by decide

abbrev tokOf (x : Dev nD × Fin 3 × Fin 3) : GSem nD τ sig × ℕ × Fin 3 := (((x.1 : Thread nD τ), (tokSem x.2).1), 0, (tokSem x.2).2)

theorem tokOf_injective : Function.Injective (tokOf : Dev nD × Fin 3 × Fin 3 → GSem nD τ sig × ℕ × Fin 3) := fun x y h =>
  Prod.ext (congrArg (fun t : GSem nD τ sig × ℕ × Fin 3 => t.1.1.1) h)
    (tokSem_injective _ _ (congrArg (fun t : GSem nD τ sig × ℕ × Fin 3 => (t.1.2, t.2.2)) h))

def allToks : Finset (GSem nD τ sig × ℕ × Fin 3) := Finset.univ.map ⟨tokOf, tokOf_injective⟩

/-- The ghost state at launch. -/
def u₀ : UU :=
  (initOf (Pipeline.cells cfgs cellOf_inj) (Pipeline.launchToks cfgs cellOf_inj), initOf allCells allToks)

/-- The duty tokens of device `c`'s own cells. -/
def toks (c : Dev nD) : sProp 𝕄 :=
  bigSep Finset.univ fun i : Fin 3 =>
    iprop(dutyTok EX (barCell c) 0 i ∗ dutyTok EX (recvCell c i) 0 0 ∗ dutyTok EX (sendCell c i) 0 0)

/-- A device's share of the ghost state at launch. -/
def G (c : Dev nD) : sProp 𝕄 :=
  iprop((bigSep Finset.univ fun k : Fin 7 => roundState EX (exRd m ρ) (kcell (c, k)) 0)
    ∗ ((bigSep Finset.univ fun k : Fin 7 => atPos EX (kcell (c, k)) 0 ∅ 0) ∗ bigSep Finset.univ fun k : Fin 7 => reached EX (kcell (c, k)) 0)
    ∗ toks c)

/-- What all devices together make of their shares. -/
def G' (c : Dev nD) : sProp 𝕄 := iprop(∃ K, ghost m ρ K c)

theorem over_cells (Φ : GSem nD τ sig → sProp 𝕄) :
    bigSep allCells Φ = bigSep Finset.univ fun c : Dev nD => bigSep Finset.univ fun k : Fin 7 => Φ (kcell (c, k)) := by
  unfold allCells; rw [bigSep_map, bigSep_univ_prod]; rfl

theorem over_toks : bigSep allToks (fun x => (dutyTok EX x.1 x.2.1 x.2.2 : sProp 𝕄)) = bigSep Finset.univ fun c : Dev nD => toks c := by
  unfold allToks
  rw [bigSep_map, bigSep_univ_prod]
  refine bigSep_congr fun c _ => ?_
  unfold toks
  rw [bigSep_univ_prod]
  refine bigSep_congr fun i _ => ?_
  rw [three]; rfl

theorem deal : BI.own (EX (initOf allCells allToks)) ⊢ (|==> bigSep Finset.univ (G m ρ) : sProp 𝕄) := by
  iintro HX
  imod (Rounds.fund EX (exRd m ρ) allCells allToks) $$ HX with ⟨Hst, Hr, Hat, Htok⟩
  imodintro
  ihave Hst' := (Entails.of_eq (over_cells fun g => roundState EX (exRd m ρ) g 0)) $$ Hst
  ihave Hat' := (Entails.of_eq (over_cells fun g => atPos EX g 0 ∅ 0)) $$ Hat
  ihave Hr' := (Entails.of_eq (over_cells fun g => reached EX g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The semaphores at launch -/

theorem sems0_eq (c : Dev nD) :
    (iprop(Pipeline.ownSems0 (Ix := Unit) (Name := ℕ) (U := UU) (Lvl := ℕ) (Val := Elt F) (τ := τ) osem c ∗ unscopedSems0 c) : sProp 𝕄)
      ⊣⊢ (bigSep Finset.univ fun k : Fin 7 => semVal (kcell (c, k)) 0) := by
  have h : (unscopedSems0 c : sProp 𝕄) = semVal (barCell c) 0 := by
    unfold unscopedSems0; rw [bigSep_eq_bigSepL_of_eq [SemLoc.reg barS] (by decide) (by decide)]; rfl
  rw [h, Pipeline.ownSems0_eq_of_list c osem [0, 1, 2, 3, 4, 5] (by decide) (by decide), seven]
  exact sep_comm

/-- A device's cells go under the schedule, at names of their own. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (exRd m ρ) κ (kcell (c, k))))
          ∗ ((bigSep Finset.univ fun k : Fin 7 => atPos EX (kcell (c, k)) 0 ∅ 0) ∗ bigSep Finset.univ fun k : Fin 7 => reached EX (kcell (c, k)) 0)
          ∗ toks c) := by
  have hinv : iprop((bigSep Finset.univ fun k : Fin 7 => semVal (kcell (c, k)) 0) ∗ bigSep Finset.univ fun k : Fin 7 => roundState EX (exRd m ρ) (kcell (c, k)) 0)
      ⊢ (|={Set.univ}=> bigSep Finset.univ fun k => iprop(∃ κ : ℕ, cellInv EX (exRd m ρ) κ (kcell (c, k))) : sProp 𝕄) := by
    rw [← bigSep_sep']
    exact (bigSep_mono fun k _ => (Rounds.body_intro EX (exRd m ρ) (kcell (c, k))).trans inv_alloc).trans (bigSep_fupd _ _)
  unfold G
  iintro ⟨Hos, Hus, Hst, Hat, Htok⟩
  ihave Hv := ((sems0_eq (F := F) c).1) $$ [Hos Hus]
  · isplitl [Hos] <;> iassumption
  imod hinv $$ [Hv Hst] with Hinv
  · isplitl [Hv] <;> iassumption
  imodintro
  isplitl [Hinv]; · iexact Hinv
  isplitl [Hat] <;> iassumption

/-! ## Handing the tokens to those who pay -/

/-- Devices outside and distances inside, or the other way round. -/
theorem swap (Φ : Dev nD → Fin 3 → sProp 𝕄) :
    (bigSep Finset.univ fun c => bigSep Finset.univ fun i => Φ c i) = bigSep Finset.univ fun i => bigSep Finset.univ fun c => Φ c i := by
  rw [← bigSep_univ_prod (fun x : Dev nD × Fin 3 => Φ x.1 x.2), bigSep_univ_equiv (Equiv.prodComm (Fin 3) (Dev nD)), bigSep_univ_prod]
  rfl

theorem toks_around : (bigSep Finset.univ fun c : Dev nD => (toks c : sProp 𝕄)) ⊢ bigSep Finset.univ fun c : Dev nD => payToks c := by
  unfold toks payToks
  rw [swap, swap]
  refine Entails.of_eq (bigSep_congr fun i _ => ?_)
  rw [bigSep_sep', bigSep_sep', bigSep_sep', bigSep_sep',
    bigSep_univ_equiv (turn i).symm (fun c : Dev nD => (dutyTok EX (barCell c) 0 i : sProp 𝕄)),
    bigSep_univ_equiv (turn i) (fun c : Dev nD => (dutyTok EX (recvCell c i) 0 0 : sProp 𝕄))]
  rfl

theorem regroup :
    (bigSep Finset.univ fun c : Dev nD => iprop((bigSep Finset.univ fun k => iprop(∃ κ : ℕ, cellInv EX (exRd m ρ) κ (kcell (c, k))))
          ∗ ((bigSep Finset.univ fun k : Fin 7 => atPos EX (kcell (c, k)) 0 ∅ 0) ∗ bigSep Finset.univ fun k : Fin 7 => reached EX (kcell (c, k)) 0)
          ∗ toks c) : sProp 𝕄)
      ⊢ bigSep Finset.univ (G' m ρ) := by
  rw [bigSep_sep', bigSep_sep', bigSep_sep', ← bigSep_univ_prod (fun ck : Dev nD × Fin 7 => iprop(∃ κ : ℕ, cellInv EX (exRd m ρ) κ (kcell ck))),
    ← bigSep_univ_prod (fun ck : Dev nD × Fin 7 => (reached EX (kcell ck) 0 : sProp 𝕄))]
  iintro ⟨HI, ⟨Hat, #HR⟩, Htok⟩
  ihave HK := (BI.bigSep_exists_pi Finset.univ (fun (ck : Dev nD × Fin 7) (κ : ℕ) => (cellInv EX (exRd m ρ) κ (kcell ck) : sProp 𝕄))) $$ HI
  icases HK with ⟨%K, #HI⟩
  ihave Htk := (toks_around (F := F)) $$ Htok
  have hall : iprop(records m ρ K ∗ bigSep Finset.univ fun c : Dev nD => (linear c : sProp 𝕄)) ⊢ bigSep Finset.univ (G' m ρ) := by
    refine (sep_mono_left (BI.bigSep_of_persistent (Finset.univ : Finset (Dev nD)) (records m ρ K))).trans ?_
    rw [← bigSep_sep']
    refine bigSep_mono fun c _ => ?_
    unfold G' ghost
    exact BIClass.exists_intro (Φ := fun K => iprop(records m ρ K ∗ linear c)) K
  iapply hall
  isplitr
  · unfold records; isplitl; · iexact HI
    iexact HR
  unfold linear
  rw [bigSep_sep']
  isplitl [Hat] <;> iassumption

/-- All devices' cells are allocated at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit each cell is owed -/

theorem oweR_bar (d c : Dev nD) (i : Fin 3) : oweR d i (barCell c) () = 0 := by
  unfold oweR
  rw [tallyAt_ne_cell fun h => dma_ne_bar (recvS i) (congrArg Prod.snd h).symm]; rfl

theorem oweB_recv (d c : Dev nD) (i j : Fin 3) : oweB d i (recvCell c j) () = 0 := by
  unfold oweB
  rw [tallyAt_ne_cell fun h => dma_ne_bar (recvS j) (congrArg Prod.snd h)]; rfl

theorem oweB_bar (d c : Dev nD) (i : Fin 3) : oweB d i (barCell c) () = if d = up c i then 1 else 0 := by
  rw [tallyAt_apply]
  by_cases h : d = up c i
  · rw [if_pos h, if_pos ⟨by rw [h, down_up], rfl⟩]
  · rw [if_neg h, if_neg fun h' => h ?_]
    have := congrArg (fun g : GSem nD τ sig => g.1.1) h'.1
    rw [show c = down d i from this, up_down]

theorem recvS_injective : ∀ i j : Fin 3, (SemLoc.dma (recvS j) : SemLoc sig) = .dma (recvS i) → i = j := by decide

theorem oweR_recv (d c : Dev nD) (i j : Fin 3) : oweR d i (recvCell c j) () = if i = j ∧ d = down c j then N else 0 := by
  rw [tallyAt_apply]
  by_cases h : i = j ∧ d = down c j
  · rw [if_pos h, if_pos ⟨by rw [h.1, h.2, up_down], rfl⟩]
  · rw [if_neg h, if_neg fun h' => h ?_]
    have h1 : c = up d i := congrArg (fun g : GSem nD τ sig => g.1.1) h'.1
    have h2 : (SemLoc.dma (recvS j) : SemLoc sig) = .dma (recvS i) := congrArg Prod.snd h'.1
    have h3 : i = j := recvS_injective i j h2
    subst h3
    exact ⟨rfl, by rw [h1, down_up]⟩

theorem O₀_apply (d : Dev nD) (g : GSem nD τ sig) :
    O₀ d g () = ((((oweR d 2 g () + oweR d 1 g ()) + oweR d 0 g ()) + oweB d 0 g ()) + oweB d 1 g ()) + oweB d 2 g () := by
  show (((((0 + oweR d 2 g ()) + oweR d 1 g ()) + oweR d 0 g ()) + oweB d 0 g ()) + oweB d 1 g ()) + oweB d 2 g () = _
  rw [Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  have h : ∀ d : Dev nD, O₀ d (barCell c) () = ((if d = up c 0 then 1 else 0) + if d = up c 1 then 1 else 0) + if d = up c 2 then 1 else 0 := fun d => by
    rw [O₀_apply, oweR_bar, oweR_bar, oweR_bar, oweB_bar, oweB_bar, oweB_bar, Nat.zero_add]
  rw [Finset.sum_congr rfl fun d _ => h d]
  simp only [Finset.sum_add_distrib, Finset.sum_ite_eq', Finset.mem_univ, if_true]

theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same]
  have h : ∀ d : Dev nD, O₀ d (recvCell c j) () = if d = down c j then N else 0 := fun d => by
    rw [O₀_apply, oweR_recv, oweR_recv, oweR_recv, oweB_recv, oweB_recv, oweB_recv]
    by_cases h : d = down c j <;> fin_cases j <;> simp [h]
  rw [Finset.sum_congr rfl fun d _ => h d, Finset.sum_ite_eq' Finset.univ (down c j) fun _ => N, if_pos (Finset.mem_univ _)]

theorem creds_intro (c : Dev nD) : (Pipeline.launchCred O₀ c : sProp 𝕄) ⊢ creds c := by
  unfold Pipeline.launchCred creds
  refine (bigSep_subset (t := [SemLoc.reg barS, .dma (recvS 0), .dma (recvS 1), .dma (recvS 2)].toFinset) (Finset.subset_univ _)).trans ?_
  rw [bigSep_eq_bigSepL_of_eq [SemLoc.reg barS, .dma (recvS 0), .dma (recvS 1), .dma (recvS 2)] rfl (by decide), three]
  rw [← launch_bar, ← launch_recv, ← launch_recv, ← launch_recv]
  exact BI.Entails.refl _

/-! ## The launch theorem's remaining premises -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hs := ((sems0_eq (F := F) c).2) $$ Hz
  icases Hs with ⟨Ho, Hu⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The four devices finish, every array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it began; -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.KernelIdeal.Scan

end
-- ==== Proof.RunningSum.lean ====
/-
# Running sums of a column cut into four blocks

The mathematics the kernel and the reference have in common, with no program in it: a column of 1024 extended reals cut
into four blocks of 256. The sum of its first `256 c + r + 1` entries is the sum of the first `r + 1` entries of block
`c` and the sums of the blocks before `c`, whichever order those are taken in.
-/
module

public import Mathlib.Data.EReal.Operations
public import Mathlib.Algebra.BigOperators.Fin
public import Mathlib.Tactic.FinCases
public import Mathlib.Tactic.Abel

@[expose] public section

namespace Cert.RunningSum

open scoped BigOperators

/-- The sum of the entries of `f` up to and including the `p`-th. -/
noncomputable def upto {n : ℕ} (f : Fin n → EReal) (p : ℕ) : EReal := ∑ k : Fin n, if k.val ≤ p then f k else 0

/-- Entry `k` of block `d` is entry `256 d + k` of the column. -/
def entry (d : Fin 4) (k : Fin 256) : Fin 1024 := ⟨256 * d.val + k.val, by omega⟩

/-- Block `d` of the column. -/
def piece (f : Fin 1024 → EReal) (d : Fin 4) : Fin 256 → EReal := fun k => f (entry d k)

/-- A sum over the column is the sum of the four blocks' sums. -/
theorem sum_blocks (f : Fin 1024 → EReal) : ∑ k, f k = ∑ d : Fin 4, ∑ k : Fin 256, f (entry d k) := by
  rw [← Fintype.sum_prod_type' (fun d k => f (entry d k))]
  refine (Fintype.sum_equiv (finProdFinEquiv (m := 4) (n := 256)) _ _ fun x => ?_).symm
  exact congrArg f (Fin.ext (Nat.add_comm _ _))

/-- What block `d` puts into the running sum at entry `r` of block `c`: all of itself if it lies before `c`, its
    entries up to `r` if it is `c`, nothing otherwise. -/
theorem part (f : Fin 1024 → EReal) (c d : Fin 4) (r : Fin 256) :
    (∑ k : Fin 256, if (entry d k).val ≤ 256 * c.val + r.val then f (entry d k) else 0)
      = if d.val < c.val then ∑ k, piece f d k else if d = c then upto (piece f c) r.val else 0 := by
  by_cases h : d.val < c.val
  · rw [if_pos h]
    exact Finset.sum_congr rfl fun k _ => if_pos (by show 256 * d.val + k.val ≤ _; omega)
  · rw [if_neg h]
    by_cases e : d = c
    · subst e
      rw [if_pos rfl]
      refine Finset.sum_congr rfl fun k _ => ?_
      have : (entry d k).val ≤ 256 * d.val + r.val ↔ k.val ≤ r.val := by
        show 256 * d.val + k.val ≤ _ ↔ _
        omega
      simp only [this, piece]
    · rw [if_neg e]
      have : d.val ≠ c.val := fun h' => e (Fin.ext h')
      exact Finset.sum_eq_zero fun k _ => if_neg (by show ¬256 * d.val + k.val ≤ _; omega)

/-- The device `i + 1` places behind `c` on the ring of four. -/
def behind (c : Fin 4) (i : Fin 3) : Fin 4 := ⟨(c.val + (3 - i.val)) % 4, Nat.mod_lt _ (by decide)⟩

/-- What the device `i + 1` places behind adds: its block's sum if it comes before `c`, else nothing. -/
noncomputable def from_ (f : Fin 1024 → EReal) (c : Fin 4) (i : Fin 3) : EReal :=
  if (behind c i).val < c.val then ∑ k, piece f (behind c i) k else 0

/-- The running sum at entry `r` of block `c` is the block's own running sum and what the three devices behind add. -/
theorem upto_split (f : Fin 1024 → EReal) (c : Fin 4) (r : Fin 256) :
    upto f (256 * c.val + r.val) = upto (piece f c) r.val + (from_ f c 0 + from_ f c 1 + from_ f c 2) := by
  unfold upto
  rw [sum_blocks]
  simp only [part]
  rw [Fin.sum_univ_four]
  unfold from_ upto
  fin_cases c <;> simp [behind] <;> abel

end Cert.RunningSum
-- ==== Proof.KernelValue.lean ====
/-
# What the kernel computes, entry by entry

With the floats read as extended reals. Entry `(r, j)` of device `c`'s result is the running sum, down to row `r`, of
column `j` of its own block, plus the column sums of the devices before it.
-/
module

public import proofs.«01_k».proof.Proof.RunIdeal
public import proofs.«01_k».proof.Proof.RunningSum
public import Idealize.ShloMosaic.PureOps.Ideal
public import Idealize.ShloMosaic.PureOps.Ideal.Laws
public import Idealize.ShloMosaic.Lib.Pointwise

@[expose] public section

noncomputable section

namespace Cert.KernelIdeal.Scan

open Cert.KernelIdeal Cert.KernelIdeal.Gen
open Idealize.ShloMosaic
open Idealize.ShloMosaic.TcCoe
open Idealize.SL.Sem
open scoped BigOperators

/-! ## The column sums -/

/-- Entry `j` of the row a device sends is the sum of column `j` of its block. -/
theorem colsum_apply (x : FVec Ideal S256x256 .f32) (j : Fin 256) :
    k0_pay1 (F := Ideal) x (ix3 (0 : Fin 1) (0 : Fin 1) j) = ∑ k : Fin 256, x (ix2 k j) := by
  unfold k0_pay1
  pointwise

/-! ## The running sums of a device's own block -/

/-- A number below 256, as a word, is itself. -/
theorem word_toInt (k : Fin 256) : (BitVec.ofNat 32 k.val).toInt = k.val := by
  have := k.isLt
  rw [BitVec.toInt_eq_toNat_of_lt] <;> rw [BitVec.toNat_ofNat] <;> omega

/-- The 0/1 matrix the kernel multiplies by has a one where the column is at most the row. -/
theorem tri_word (r k : Fin 256) :
    (((BitVec.setWidth 32 (IntOp.cmpi .sle (BitVec.ofNat 32 k.val) (BitVec.ofNat 32 r.val))).toInt : ℝ) : EReal)
      = if k.val ≤ r.val then 1 else 0 := by
  have hk := word_toInt k
  have hr := word_toInt r
  by_cases h : k.val ≤ r.val
  · have : IntOp.cmpi .sle (BitVec.ofNat 32 k.val) (BitVec.ofNat 32 r.val) = 1#1 := by
      simp [IntOp.cmpi, BitVec.sle, hk, hr, h]
    rw [this, if_pos h]; simp
  · have : IntOp.cmpi .sle (BitVec.ofNat 32 k.val) (BitVec.ofNat 32 r.val) = 0#1 := by
      simp [IntOp.cmpi, BitVec.sle, hk, hr, h]
    rw [this, if_neg h]; simp

/-- Entry `(r, j)` of the product is the running sum of column `j` down to row `r`. -/
theorem local_apply (x : FVec Ideal S256x256 .f32) (r j : Fin 256) :
    k0_pay2 (F := Ideal) x (ix2 r j) = RunningSum.upto (fun k => x (ix2 k j)) r.val := by
  unfold k0_pay2 RunningSum.upto
  pointwise
  refine Finset.sum_congr rfl fun k _ => ?_
  refine (congrArg (· * x (ix2 k j)) (tri_word r k)).trans ?_
  by_cases h : k.val ≤ r.val
  · simp only [if_pos h, one_mul]
  · simp only [if_neg h, zero_mul]

/-! ## What the devices behind add -/

/-- The row `y` added to the row `acc` if the bit `b` is set. -/
def gather (acc : FVec Ideal S1x256 .f32) (b : BitVec 1) (y : FVec Ideal S1x1x256 .f32) : FVec Ideal S1x256 .f32 :=
  addf acc (Scalar.select b (shapeCast S1x256 y shapeCasts_S1x1x256_S1x256) (broadcast S1x256 (Scalar.ofBits .f32 0x00000000#32)))

theorem gather_apply (acc : FVec Ideal S1x256 .f32) (b : BitVec 1) (y : FVec Ideal S1x1x256 .f32) (j : Fin 256) :
    gather acc b y (ix2 (0 : Fin 1) j) = acc (ix2 (0 : Fin 1) j) + if b = 1#1 then y (ix3 (0 : Fin 1) (0 : Fin 1) j) else (0 : EReal) := by
  unfold gather
  rcases BitVec.eq_zero_or_eq_one b with h | h <;> subst h
  · rw [ValueIdx.select_zero, if_neg (by decide)]
    pointwise
  · rw [ValueIdx.select_one, if_pos rfl]
    pointwise

/-- The bit the kernel takes the row from `k` places behind under. -/
def before (c : Dev nD) (k : BitVec 32) : BitVec 1 := Scalar.cmpi .slt (backW c k) (posW c)

/-- It is set exactly when the device that row is from comes before `c`. -/
theorem before_iff (c : Dev nD) (i : Fin 3) : before c (![1#32, 2#32, 3#32] i) = 1#1 ↔ (down c i).val < c.val := by
  revert c i; decide

variable (m : (ℓ : Loc nD τ sig) → Buf (Elt Ideal) ℓ) (ρ : Dev nD → PrngReg)

/-- Device `c`'s result: its own running sums, and added to every row of them what the three devices behind add. -/
theorem outAt_eq (c : Dev nD) :
    outAt m ρ c = addf (k0_pay2 (xstg m ρ c)) (broadcastTo S256x256
      (gather (gather (gather (k0_pay3 (F := Ideal)) (before c 1#32) (sums m ρ (down c 0))) (before c 2#32) (sums m ρ (down c 1)))
        (before c 3#32) (sums m ρ (down c 2))) broadcasts_S1x256_S256x256) := rfl

/-- Device `c`'s block of the argument, as a matrix of extended reals. -/
abbrev xs (c : Dev nD) : S256x256.Idx → EReal := xstg m ρ c

/-- Entry `j` of the row of column sums device `c` sends. -/
theorem sums_apply (c : Dev nD) (j : Fin 256) :
    sums m ρ c (ix3 (0 : Fin 1) (0 : Fin 1) j) = ∑ k : Fin 256, xs m ρ c (ix2 k j) :=
  colsum_apply (xstg m ρ c) j

theorem outAt_apply (c : Dev nD) (r j : Fin 256) :
    (outAt m ρ c : FVec Ideal S256x256 .f32) (ix2 r j)
      = RunningSum.upto (fun k => xs m ρ c (ix2 k j)) r.val
        + (((if (down c 0).val < c.val then ∑ k : Fin 256, xs m ρ (down c 0) (ix2 k j) else 0)
          + if (down c 1).val < c.val then ∑ k : Fin 256, xs m ρ (down c 1) (ix2 k j) else 0)
          + if (down c 2).val < c.val then ∑ k : Fin 256, xs m ρ (down c 2) (ix2 k j) else 0) := by
  have h0 : before c 1#32 = 1#1 ↔ _ := before_iff c 0
  have h1 : before c 2#32 = 1#1 ↔ _ := before_iff c 1
  have h2 : before c 3#32 = 1#1 ↔ _ := before_iff c 2
  have hz : (k0_pay3 (F := Ideal)) (ix2 (0 : Fin 1) j) = (0 : EReal) := Ideal.ofBits_zero_f32
  rw [outAt_eq]
  pointwise
  rw [gather_apply, gather_apply, gather_apply, local_apply, hz, sums_apply, sums_apply, sums_apply]
  rw [zero_add]
  simp only [h0, h1, h2]

/-! ## The result as a block of the whole column's running sums -/

/-- The shape of the whole array. -/
abbrev SX : Shape := ⟨2, ![1024, 256]⟩

/-- The running sums of a whole array's columns. -/
def running (X : FVec Ideal SX .f32) : FVec Ideal SX .f32 :=
  fun i => RunningSum.upto (fun k : Fin 1024 => X (ix2 k (i 1))) (i 0).val

/-- Row `k` of block `c` of a whole array is its row `256 c + k`. -/
theorem block_entry (X : SX.Idx → EReal) (c : Fin 4) (k j : Fin 256) :
    Layout.block S256x256 SX 0 4 c X (by decide) (ix2 k j) = X (ix2 (RunningSum.entry c k) j) := by
  refine congrArg X (funext fun a => Fin.ext ?_)
  match a with
  | ⟨0, _⟩ => show c.val * 256 + k.val = 256 * c.val + k.val; omega
  | ⟨1, _⟩ => rfl

/-- If every device holds its block of `X`, every device's result is its block of the running sums of `X`. -/
theorem outAt_block (X : FVec Ideal SX .f32) (hX : ∀ c : Dev nD, xstg m ρ c = Layout.block S256x256 SX 0 4 c X (by decide))
    (c : Dev nD) : outAt m ρ c = Layout.block S256x256 SX 0 4 c (running X) (by decide) := by
  funext i
  obtain ⟨r, j, rfl⟩ : ∃ r j : Fin 256, i = ix2 r j := ⟨i 0, i 1, ValueIdx.eq_ix2 i⟩
  have hx : ∀ (d : Dev nD) (k : Fin 256),
      xs m ρ d (ix2 k j) = RunningSum.piece (fun k => X (ix2 k j)) d k :=
    fun d k => (congrFun (hX d) (ix2 k j)).trans (block_entry X d k j)
  refine (outAt_apply m ρ c r j).trans ?_
  simp only [hx]
  refine (RunningSum.upto_split (fun k => X (ix2 k j)) c r).symm.trans ?_
  exact (block_entry (running X) c r j).symm

/-! ## The arrays in memory -/

/-- The argument's one block is the whole array, -/
theorem xstg_eq (c : Dev nD) : xstg m ρ c = m ((c : Thread nD τ).loc main_arg0) :=
  Memref.read_access_unit_zero (Elt Ideal) main_arg0 (funext fun a => by fin_cases a <;> decide) (fun a => by fin_cases a <;> decide) _

/-- and so is the result's: it ends as what the kernel stored. -/
theorem finalA_out (c : Dev nD) : finalA m ρ c (1 : Fin 2) = outAt m ρ c := by
  refine (Memref.read_access_unit_zero (Elt Ideal) main_v1 (off := fun a => (win0_1.index (0 : Fin 1)) a * main_v1.ty.shape.size a) (funext fun a => by fin_cases a <;> decide) (fun a => by fin_cases a <;> decide) _).symm.trans ?_
  show (win0_1.blk (0 : Fin 1)).view.read (Elt Ideal) ((dats m ρ 0 c).arrAt (1 : Fin 2) (((0 : Fin 1) : Fin cfg0.N).val + 1)) = _
  rw [(dats m ρ 0 c).arrAt_succ (1 : Fin 2) (0 : Fin 1), if_pos (by decide)]
  exact View.read_write_univ _ _

end Cert.KernelIdeal.Scan

end
-- ==== Proof.ReferenceValue.lean ====
/-
# What the reference computes, entry by entry

With the floats read as extended reals. The reference slides a window of 1024 rows and one column over the array with
1023 rows of zeros put before it; the sum under the window at row `p` is the running sum down to row `p`.
-/
module

public import proofs.«01_k».proof.Proof.Gen.ReferenceIdeal.Run
public import proofs.«01_k».proof.Proof.RunningSum
public import Idealize.ShloMosaic.PureOps.Ideal
public import Idealize.ShloMosaic.PureOps.Ideal.Laws
public import Idealize.ShloMosaic.Lib.ValueIdxCore

@[expose] public section

noncomputable section

namespace Cert.ReferenceIdeal.Scan

open Cert.ReferenceIdeal Cert.ReferenceIdeal.Gen
open Idealize.ShloMosaic
open Idealize.ShloMosaic.ValueIdx
open scoped BigOperators

/-- Adding the terms of a list one after another to `v` adds their sum. -/
theorem foldl_add_sum {α : Type} (g : α → EReal) (l : List α) (v : EReal) :
    l.foldl (fun acc a => acc + g a) v = v + (l.map g).sum := by
  induction l generalizing v with
  | nil => simp
  | cons a l ih => rw [List.foldl_cons, ih, List.map_cons, List.sum_cons, add_assoc]

/-- Position `a` of the window that ends at row `p` is row `a + p + 1` counted round: those past the end of the count are
    the rows up to `p`, the others are padding. -/
theorem window_sum (f : Fin 1024 → EReal) (p : Fin 1024) :
    (∑ a : Fin 1024, if h : 1023 ≤ p.val + a.val ∧ p.val + a.val - 1023 < 1024 then f ⟨p.val + a.val - 1023, h.2⟩ else 0)
      = RunningSum.upto f p.val := by
  unfold RunningSum.upto
  rw [← Equiv.sum_comp (Equiv.addRight (p + 1)) fun k : Fin 1024 => if k.val ≤ p.val then f k else 0]
  refine Finset.sum_congr rfl fun a _ => ?_
  have hp := p.isLt
  have ha := a.isLt
  have hv : (Equiv.addRight (p + 1) a).val = (a.val + p.val + 1) % 1024 := by
    show (a + (p + 1)).val = _
    rw [Fin.val_add, Fin.val_add]
    show (a.val + (p.val + 1) % 1024) % 1024 = _
    omega
  by_cases h : 1023 ≤ p.val + a.val
  · rw [dif_pos ⟨h, by omega⟩, if_pos (by omega)]
    exact congrArg f (Fin.ext (by show p.val + a.val - 1023 = _; omega))
  · rw [dif_neg fun h' => h h'.1, if_neg (by omega)]

/-- Where position `w` of the window that ends at entry `(p, j)` lies in the padded array. -/
abbrev spot (p : Fin 1024) (j : Fin 256) (w : (⟨2, ![1024, 1]⟩ : Shape).Idx) (a : Fin 2) : ℕ :=
  (ix2 p j a).val * (![1, 1] : Fin 2 → ℕ) a + (w a).val

/-- The entry position `w` of the window adds: row `p + w - 1023` of column `j` if there is one, else zero. -/
def seen (X : FVec Ideal S1024x256 .f32) (p : Fin 1024) (j : Fin 256) (w : (⟨2, ![1024, 1]⟩ : Shape).Idx) : EReal :=
  if h : 1023 ≤ p.val + (w 0).val ∧ p.val + (w 0).val - 1023 < 1024 then X (ix2 ⟨p.val + (w 0).val - 1023, h.2⟩ j) else 0

/-- What lies there: an entry of column `j`, or padding. -/
theorem under (X : FVec Ideal S1024x256 .f32) (p : Fin 1024) (j : Fin 256) (w : (⟨2, ![1024, 1]⟩ : Shape).Idx)
    (dec : Decidable (∀ a : Fin 2, (![1023, 0] : Fin 2 → ℕ) a ≤ spot p j w a ∧ spot p j w a - (![1023, 0] : Fin 2 → ℕ) a < S1024x256.size a)) :
    (if hin : ∀ a : Fin 2, (![1023, 0] : Fin 2 → ℕ) a ≤ spot p j w a ∧ spot p j w a - (![1023, 0] : Fin 2 → ℕ) a < S1024x256.size a
      then X fun a => ⟨spot p j w a - (![1023, 0] : Fin 2 → ℕ) a, (hin a).2⟩ else (0 : EReal))
      = seen X p j w := by
  unfold seen
  have hw : (w 1).val = 0 := Nat.lt_one_iff.mp (w 1).isLt
  have hj := j.isLt
  by_cases h : 1023 ≤ p.val + (w 0).val ∧ p.val + (w 0).val - 1023 < 1024
  · rw [dif_pos h, dif_pos fun a => by
      match a with
      | ⟨0, _⟩ =>
        show 1023 ≤ p.val * 1 + (w 0).val ∧ p.val * 1 + (w 0).val - 1023 < 1024
        omega
      | ⟨1, _⟩ =>
        show 0 ≤ j.val * 1 + (w 1).val ∧ j.val * 1 + (w 1).val - 0 < 256
        omega]
    refine congrArg X (funext fun a => Fin.ext ?_)
    match a with
    | ⟨0, _⟩ => show p.val * 1 + (w 0).val - 1023 = p.val + (w 0).val - 1023; omega
    | ⟨1, _⟩ => show j.val * 1 + (w 1).val - 0 = j.val; omega
  · rw [dif_neg h, dif_neg fun hin => h ?_]
    have h0 : 1023 ≤ p.val * 1 + (w 0).val ∧ p.val * 1 + (w 0).val - 1023 < 1024 := hin 0
    omega

/-- Entry `(p, j)` of the reference's result is the running sum of column `j` down to row `p`. -/
theorem result_apply (X : FVec Ideal S1024x256 .f32) (p : Fin 1024) (j : Fin 256) :
    Host.reduceWindowAdd ![1024, 1] ![1, 1] ![1023, 0] ![0, 0] X (broadcastInDim S_ ![] bcast_S_S_ (constant (F := Ideal) S_ .f32 0x00000000#32))
        reduceWindows_S1024x256_S1024x256_w1024s1p1023_0_w1s1p0_0 h_S_ (ix2 p j)
      = RunningSum.upto (fun k : Fin 1024 => X (ix2 k j)) p.val := by
  have hv : broadcastInDim S_ ![] bcast_S_S_ (constant (F := Ideal) S_ .f32 0x00000000#32) (Shape.Idx.first h_S_) = (0 : EReal) :=
    Ideal.ofBits_zero_f32
  rw [← window_sum]
  unfold Host.reduceWindowAdd
  rw [Ideal.hostReduceWindowAdd_def, hv]
  unfold Ideal.hostReduceWindowAdd Host.reduceWindow
  refine (foldl_add_sum _ _ _).trans ?_
  dsimp only
  rw [zero_add, ← Fin.sum_univ_def]
  refine (Finset.sum_congr rfl fun n _ => under X p j ((Shape.rowMajor (⟨2, ![1024, 1]⟩ : Shape)).symm n) _).trans ?_
  refine (Equiv.sum_comp (Shape.rowMajor (⟨2, ![1024, 1]⟩ : Shape)).symm (seen X p j)).trans ?_
  refine (sum_idx2 (seen X p j)).trans ?_
  exact Finset.sum_congr rfl fun a _ => Fin.sum_univ_one fun b => seen X p j (ix2 a b)

end Cert.ReferenceIdeal.Scan

end
-- ==== Proof.lean ====
/-
# The claims

The kernel, as printed and with its floats read as extended reals, and the reference all run to the end, leave their
arguments as they were and every semaphore at zero; and the kernel's result is, device by device, the block of the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, leaves its argument as it was and every semaphore at zero. -/
theorem kernel_runs : Cert.quiescent_Kernel := fun m ρ _ =>
  (θ_run Cert.Kernel.defs _ _).mono
    (fun _ h => ⟨fun c => (h.1 c (0 : Fin 2)).trans (Cert.Kernel.Scan.finalA_arg m ρ c), h.2⟩)
    (Cert.Kernel.Scan.run_main (F := Bits) m ρ)

/-- So does the kernel over the extended reals; -/
theorem kernelIdeal_runs : Cert.quiescent_KernelIdeal := fun m ρ _ =>
  (θ_run Cert.KernelIdeal.defs _ _).mono
    (fun _ h => ⟨fun c => (h.1 c (0 : Fin 2)).trans (Cert.KernelIdeal.Scan.finalA_arg m ρ c), h.2⟩)
    (Cert.KernelIdeal.Scan.run_main (F := Ideal) m ρ)

/-- and the reference, which has no semaphore. -/
theorem reference_runs : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals each device's result is its block of the reference's: both are the running sums of the
    whole argument's columns. -/
theorem same_result : Cert.algebraic_KernelIdeal_ReferenceIdeal := by
  intro m ρ m' ρ' _ hx
  let X : (⟨2, ![1024, 256]⟩ : Shape).Idx → EReal :=
    m' (((0 : Dev Cert.ReferenceIdeal.nD).tc : Thread Cert.ReferenceIdeal.nD Cert.ReferenceIdeal.τ).loc Cert.ReferenceIdeal.main_arg0)
  refine ⟨Cert.KernelIdeal.Scan.running X, ?_, ?_⟩
  · refine (θ_run Cert.KernelIdeal.defs _ _).mono (fun _ h c => ⟨(h.1 c (1 : Fin 2)).trans ?_,
      (h.1 c (0 : Fin 2)).trans (Cert.KernelIdeal.Scan.finalA_arg m ρ c)⟩) (Cert.KernelIdeal.Scan.run_main (F := Ideal) m ρ)
    refine (Cert.KernelIdeal.Scan.finalA_out m ρ c).trans ?_
    exact Cert.KernelIdeal.Scan.outAt_block m ρ X (fun d => (Cert.KernelIdeal.Scan.xstg_eq m ρ d).trans (hx d)) c
  · refine (θ_run Cert.ReferenceIdeal.defs _ _).mono (fun _ h => ⟨(h 0).1.trans ?_, (h 0).2⟩)
      (Cert.ReferenceIdeal.Value.run (F := Ideal) m' ρ')
    funext i
    obtain ⟨p, j, rfl⟩ : ∃ (p : Fin 1024) (j : Fin 256), i = ValueIdx.ix2 p j := ⟨i 0, i 1, ValueIdx.eq_ix2 i⟩
    exact Cert.ReferenceIdeal.Scan.result_apply X p j

theorem claim : Cert.Claim :=
  ⟨Cert.Kernel.Gen.facts, Cert.KernelIdeal.Gen.facts, Cert.ReferenceIdeal.Gen.facts,
    kernel_runs, kernelIdeal_runs, reference_runs, trivial, same_result⟩

end Cert.Proof

end
